-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_gamma [hPre_bf16_gamma : Cert.Pre_bf16_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_gamma [hPre_bf16_gamma : Cert.Pre_bf16_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bf16_gamma [hKernelIdeal : Cert.KernelIdeal.Facts] [hPre_bf16_gamma : Cert.Pre_bf16_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bf16_gamma [hReferenceIdeal : Cert.ReferenceIdeal.Facts] [hPre_bf16_gamma : Cert.Pre_bf16_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bf16_gamma [hKernelIdeal : Cert.KernelIdeal.Facts] [hReferenceIdeal : Cert.ReferenceIdeal.Facts] [hPre_bf16_gamma : Cert.Pre_bf16_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40_0) = v0 c
          ∧ r.2.mem ((c.tc : Thread Cert.ReferenceIdeal.nD Cert.ReferenceIdeal.τ).loc Cert.ReferenceIdeal.main_v40_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bf16_gamma : Cert.Pre_bf16_gamma.Facts),
    quiescent_Kernel (hKernel := hKernel)
    ∧ quiescent_KernelIdeal (hKernelIdeal := hKernelIdeal)
    ∧ quiescent_KernelIdeal_pre_bf16_gamma (hKernelIdeal := hKernelIdeal) (hPre_bf16_gamma := hPre_bf16_gamma)
    ∧ quiescent_ReferenceIdeal (hReferenceIdeal := hReferenceIdeal)
    ∧ quiescent_ReferenceIdeal_pre_bf16_gamma (hReferenceIdeal := hReferenceIdeal) (hPre_bf16_gamma := hPre_bf16_gamma)
    ∧ preserves_Kernel_KernelIdeal
    ∧ algebraic_KernelIdeal_ReferenceIdeal_pre_bf16_gamma (hKernelIdeal := hKernelIdeal) (hReferenceIdeal := hReferenceIdeal) (hPre_bf16_gamma := hPre_bf16_gamma)
-- ==== Pre_bf16_gamma.lean ====
abbrev S11x1024x8192 : Shape := ⟨3, ![11, 1024, 8192]⟩
abbrev S8192 : Shape := ⟨1, ![8192]⟩
abbrev S_ : Shape := ⟨0, ![]⟩

class Facts : Prop where
  bitsLt_bf16_f32 : FTy.bits .bf16 < FTy.bits .f32
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S11x1024x8192 .bf16) (main_arg1 : FVec F S8192 .bf16) : IVec S_ 1 :=
  let main_v0 : FVec F S8192 .f32 := (extf .f32 · bitsLt_bf16_f32) main_arg1
  let main_v1 : FVec F S8192 .f32 := Host.absf main_v0
  let main_cst : FVec F S_ .f32 := constant S_ .f32 0x7F7F0000#32
  let main_v2 : FVec F S8192 .f32 := broadcastInDim S8192 ![] bcast_S_S8192 main_cst
  let main_v3 : IVec S8192 1 := cmpf .ole main_v1 main_v2
  let main_c : IVec S_ 1 := constantI S_ 1 1#1
  let main_v4 : IVec S_ 1 := (fun x v => Host.reduce IntOp.andi x v reducesTo_S8192_S_d0 h_S_) main_v3 main_c
  main_v4
-- ==== Kernel.lean ====
abbrev S11x1024x8192 : Shape := ⟨3, ![11, 1024, 8192]⟩
abbrev S8192 : Shape := ⟨1, ![8192]⟩
abbrev S11264x8192 : Shape := ⟨2, ![11264, 8192]⟩
abbrev S1x8192 : Shape := ⟨2, ![1, 8192]⟩
abbrev S11264x64 : Shape := ⟨2, ![11264, 64]⟩
abbrev S256x8192 : Shape := ⟨2, ![256, 8192]⟩
abbrev S256x64 : Shape := ⟨2, ![256, 64]⟩
abbrev S32x128 : Shape := ⟨2, ![32, 128]⟩
abbrev S32 : Shape := ⟨1, ![32]⟩
abbrev S32x1 : Shape := ⟨2, ![32, 1]⟩
abbrev S1x256 : Shape := ⟨2, ![1, 256]⟩
abbrev S1x128 : Shape := ⟨2, ![1, 128]⟩
abbrev S32x256 : Shape := ⟨2, ![32, 256]⟩
abbrev S32x64 : Shape := ⟨2, ![32, 64]⟩

abbrev nBuf : Space → Nat
  | .hbm => 7
  | .vmem => 8
  | .smem => 0
  | _ => 0

abbrev bufTy : (tb : Table) → Fin (tcTables nBuf tb) → BufTy
  | .hbm, ⟨0, _⟩ => ⟨S11x1024x8192, .bf16⟩
  | .hbm, ⟨1, _⟩ => ⟨S8192, .bf16⟩
  | .hbm, ⟨2, _⟩ => ⟨S11264x8192, .bf16⟩
  | .hbm, ⟨3, _⟩ => ⟨S8192, .f32⟩
  | .hbm, ⟨4, _⟩ => ⟨S1x8192, .f32⟩
  | .hbm, ⟨5, _⟩ => ⟨S11264x8192, .fp8e4m3⟩
  | .hbm, ⟨6, _⟩ => ⟨S11264x64, .i8⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S256x8192, .fp8e4m3⟩
  | .local _ .vmem, ⟨4, _⟩ => ⟨S256x8192, .fp8e4m3⟩
  | .local _ .vmem, ⟨5, _⟩ => ⟨S256x64, .i8⟩
  | .local _ .vmem, ⟨6, _⟩ => ⟨S256x64, .i8⟩
  | .local _ .vmem, ⟨7, _⟩ => ⟨S256x64, .i32⟩
  | _, _ => ⟨S11x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![44], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v4 : Index := Scalar.indexCast v2
  let c0 : Index := 0#32
  ![v4.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v10 : Index := Scalar.indexCast v2
  let c128 : Index := 128#32
  ![v10.toNat, 128]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v16 : Index := Scalar.indexCast v2
  let c256 : Index := 256#32
  ![v16.toNat, 256]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v22 : Index := Scalar.indexCast v2
  let c384 : Index := 384#32
  ![v22.toNat, 384]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v28 : Index := Scalar.indexCast v2
  let c512 : Index := 512#32
  ![v28.toNat, 512]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v34 : Index := Scalar.indexCast v2
  let c640 : Index := 640#32
  ![v34.toNat, 640]
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v40 : Index := Scalar.indexCast v2
  let c768 : Index := 768#32
  ![v40.toNat, 768]
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v46 : Index := Scalar.indexCast v2
  let c896 : Index := 896#32
  ![v46.toNat, 896]
def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v52 : Index := Scalar.indexCast v2
  let c1024 : Index := 1024#32
  ![v52.toNat, 1024]
def k0_off10 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v58 : Index := Scalar.indexCast v2
  let c1152 : Index := 1152#32
  ![v58.toNat, 1152]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v64 : Index := Scalar.indexCast v2
  let c1280 : Index := 1280#32
  ![v64.toNat, 1280]
def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v70 : Index := Scalar.indexCast v2
  let c1408 : Index := 1408#32
  ![v70.toNat, 1408]
def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v76 : Index := Scalar.indexCast v2
  let c1536 : Index := 1536#32
  ![v76.toNat, 1536]
def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v82 : Index := Scalar.indexCast v2
  let c1664 : Index := 1664#32
  ![v82.toNat, 1664]
def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v88 : Index := Scalar.indexCast v2
  let c1792 : Index := 1792#32
  ![v88.toNat, 1792]
def k0_off16 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v94 : Index := Scalar.indexCast v2
  let c1920 : Index := 1920#32
  ![v94.toNat, 1920]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v100 : Index := Scalar.indexCast v2
  let c2048 : Index := 2048#32
  ![v100.toNat, 2048]
def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v106 : Index := Scalar.indexCast v2
  let c2176 : Index := 2176#32
  ![v106.toNat, 2176]
def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v112 : Index := Scalar.indexCast v2
  let c2304 : Index := 2304#32
  ![v112.toNat, 2304]
def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v118 : Index := Scalar.indexCast v2
  let c2432 : Index := 2432#32
  ![v118.toNat, 2432]
def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v124 : Index := Scalar.indexCast v2
  let c2560 : Index := 2560#32
  ![v124.toNat, 2560]
def k0_off22 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v130 : Index := Scalar.indexCast v2
  let c2688 : Index := 2688#32
  ![v130.toNat, 2688]
def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v136 : Index := Scalar.indexCast v2
  let c2816 : Index := 2816#32
  ![v136.toNat, 2816]
def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v142 : Index := Scalar.indexCast v2
  let c2944 : Index := 2944#32
  ![v142.toNat, 2944]
def k0_off25 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v148 : Index := Scalar.indexCast v2
  let c3072 : Index := 3072#32
  ![v148.toNat, 3072]
def k0_off26 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v154 : Index := Scalar.indexCast v2
  let c3200 : Index := 3200#32
  ![v154.toNat, 3200]
def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v160 : Index := Scalar.indexCast v2
  let c3328 : Index := 3328#32
  ![v160.toNat, 3328]
def k0_off28 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v166 : Index := Scalar.indexCast v2
  let c3456 : Index := 3456#32
  ![v166.toNat, 3456]
def k0_off29 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v172 : Index := Scalar.indexCast v2
  let c3584 : Index := 3584#32
  ![v172.toNat, 3584]
def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v178 : Index := Scalar.indexCast v2
  let c3712 : Index := 3712#32
  ![v178.toNat, 3712]
def k0_off31 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v184 : Index := Scalar.indexCast v2
  let c3840 : Index := 3840#32
  ![v184.toNat, 3840]
def k0_off32 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v190 : Index := Scalar.indexCast v2
  let c3968 : Index := 3968#32
  ![v190.toNat, 3968]
def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v196 : Index := Scalar.indexCast v2
  let c4096 : Index := 4096#32
  ![v196.toNat, 4096]
def k0_off34 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v202 : Index := Scalar.indexCast v2
  let c4224 : Index := 4224#32
  ![v202.toNat, 4224]
def k0_off35 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v208 : Index := Scalar.indexCast v2
  let c4352 : Index := 4352#32
  ![v208.toNat, 4352]
def k0_off36 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v214 : Index := Scalar.indexCast v2
  let c4480 : Index := 4480#32
  ![v214.toNat, 4480]
def k0_off37 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v220 : Index := Scalar.indexCast v2
  let c4608 : Index := 4608#32
  ![v220.toNat, 4608]
def k0_off38 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v226 : Index := Scalar.indexCast v2
  let c4736 : Index := 4736#32
  ![v226.toNat, 4736]
def k0_off39 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v232 : Index := Scalar.indexCast v2
  let c4864 : Index := 4864#32
  ![v232.toNat, 4864]
def k0_off40 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v238 : Index := Scalar.indexCast v2
  let c4992 : Index := 4992#32
  ![v238.toNat, 4992]
def k0_off41 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v244 : Index := Scalar.indexCast v2
  let c5120 : Index := 5120#32
  ![v244.toNat, 5120]
def k0_off42 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v250 : Index := Scalar.indexCast v2
  let c5248 : Index := 5248#32
  ![v250.toNat, 5248]
def k0_off43 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v256 : Index := Scalar.indexCast v2
  let c5376 : Index := 5376#32
  ![v256.toNat, 5376]
def k0_off44 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v262 : Index := Scalar.indexCast v2
  let c5504 : Index := 5504#32
  ![v262.toNat, 5504]
def k0_off45 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v268 : Index := Scalar.indexCast v2
  let c5632 : Index := 5632#32
  ![v268.toNat, 5632]
def k0_off46 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v274 : Index := Scalar.indexCast v2
  let c5760 : Index := 5760#32
  ![v274.toNat, 5760]
def k0_off47 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v280 : Index := Scalar.indexCast v2
  let c5888 : Index := 5888#32
  ![v280.toNat, 5888]
def k0_off48 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v286 : Index := Scalar.indexCast v2
  let c6016 : Index := 6016#32
  ![v286.toNat, 6016]
def k0_off49 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v292 : Index := Scalar.indexCast v2
  let c6144 : Index := 6144#32
  ![v292.toNat, 6144]
def k0_off50 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v298 : Index := Scalar.indexCast v2
  let c6272 : Index := 6272#32
  ![v298.toNat, 6272]
def k0_off51 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v304 : Index := Scalar.indexCast v2
  let c6400 : Index := 6400#32
  ![v304.toNat, 6400]
def k0_off52 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v310 : Index := Scalar.indexCast v2
  let c6528 : Index := 6528#32
  ![v310.toNat, 6528]
def k0_off53 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v316 : Index := Scalar.indexCast v2
  let c6656 : Index := 6656#32
  ![v316.toNat, 6656]
def k0_off54 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v322 : Index := Scalar.indexCast v2
  let c6784 : Index := 6784#32
  ![v322.toNat, 6784]
def k0_off55 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v328 : Index := Scalar.indexCast v2
  let c6912 : Index := 6912#32
  ![v328.toNat, 6912]
def k0_off56 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v334 : Index := Scalar.indexCast v2
  let c7040 : Index := 7040#32
  ![v334.toNat, 7040]
def k0_off57 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v340 : Index := Scalar.indexCast v2
  let c7168 : Index := 7168#32
  ![v340.toNat, 7168]
def k0_off58 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v346 : Index := Scalar.indexCast v2
  let c7296 : Index := 7296#32
  ![v346.toNat, 7296]
def k0_off59 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v352 : Index := Scalar.indexCast v2
  let c7424 : Index := 7424#32
  ![v352.toNat, 7424]
def k0_off60 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v358 : Index := Scalar.indexCast v2
  let c7552 : Index := 7552#32
  ![v358.toNat, 7552]
def k0_off61 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v364 : Index := Scalar.indexCast v2
  let c7680 : Index := 7680#32
  ![v364.toNat, 7680]
def k0_off62 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v370 : Index := Scalar.indexCast v2
  let c7808 : Index := 7808#32
  ![v370.toNat, 7808]
def k0_off63 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v376 : Index := Scalar.indexCast v2
  let c7936 : Index := 7936#32
  ![v376.toNat, 7936]
def k0_off64 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v382 : Index := Scalar.indexCast v2
  let c8064 : Index := 8064#32
  ![v382.toNat, 8064]
def k0_off65 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v439 : Index := Scalar.indexCast v2
  let c0_15 : Index := 0#32
  ![v439.toNat, 0]
def k0_off66 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v484 : Index := Scalar.indexCast v2
  let c1 : Index := 1#32
  ![v484.toNat, 1]
def k0_off67 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v529 : Index := Scalar.indexCast v2
  let c2 : Index := 2#32
  ![v529.toNat, 2]
def k0_off68 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v574 : Index := Scalar.indexCast v2
  let c3 : Index := 3#32
  ![v574.toNat, 3]
def k0_off69 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v619 : Index := Scalar.indexCast v2
  let c4 : Index := 4#32
  ![v619.toNat, 4]
def k0_off70 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v664 : Index := Scalar.indexCast v2
  let c5 : Index := 5#32
  ![v664.toNat, 5]
def k0_off71 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v709 : Index := Scalar.indexCast v2
  let c6 : Index := 6#32
  ![v709.toNat, 6]
def k0_off72 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v754 : Index := Scalar.indexCast v2
  let c7 : Index := 7#32
  ![v754.toNat, 7]
def k0_off73 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v799 : Index := Scalar.indexCast v2
  let c8 : Index := 8#32
  ![v799.toNat, 8]
def k0_off74 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v844 : Index := Scalar.indexCast v2
  let c9 : Index := 9#32
  ![v844.toNat, 9]
def k0_off75 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v889 : Index := Scalar.indexCast v2
  let c10 : Index := 10#32
  ![v889.toNat, 10]
def k0_off76 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v934 : Index := Scalar.indexCast v2
  let c11 : Index := 11#32
  ![v934.toNat, 11]
def k0_off77 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v979 : Index := Scalar.indexCast v2
  let c12 : Index := 12#32
  ![v979.toNat, 12]
def k0_off78 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1024 : Index := Scalar.indexCast v2
  let c13 : Index := 13#32
  ![v1024.toNat, 13]
def k0_off79 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1069 : Index := Scalar.indexCast v2
  let c14 : Index := 14#32
  ![v1069.toNat, 14]
def k0_off80 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1114 : Index := Scalar.indexCast v2
  let c15 : Index := 15#32
  ![v1114.toNat, 15]
def k0_off81 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1159 : Index := Scalar.indexCast v2
  let c16 : Index := 16#32
  ![v1159.toNat, 16]
def k0_off82 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1204 : Index := Scalar.indexCast v2
  let c17 : Index := 17#32
  ![v1204.toNat, 17]
def k0_off83 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1249 : Index := Scalar.indexCast v2
  let c18 : Index := 18#32
  ![v1249.toNat, 18]
def k0_off84 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1294 : Index := Scalar.indexCast v2
  let c19 : Index := 19#32
  ![v1294.toNat, 19]
def k0_off85 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1339 : Index := Scalar.indexCast v2
  let c20 : Index := 20#32
  ![v1339.toNat, 20]
def k0_off86 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1384 : Index := Scalar.indexCast v2
  let c21 : Index := 21#32
  ![v1384.toNat, 21]
def k0_off87 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1429 : Index := Scalar.indexCast v2
  let c22 : Index := 22#32
  ![v1429.toNat, 22]
def k0_off88 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1474 : Index := Scalar.indexCast v2
  let c23 : Index := 23#32
  ![v1474.toNat, 23]
def k0_off89 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1519 : Index := Scalar.indexCast v2
  let c24 : Index := 24#32
  ![v1519.toNat, 24]
def k0_off90 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1564 : Index := Scalar.indexCast v2
  let c25 : Index := 25#32
  ![v1564.toNat, 25]
def k0_off91 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1609 : Index := Scalar.indexCast v2
  let c26 : Index := 26#32
  ![v1609.toNat, 26]
def k0_off92 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1654 : Index := Scalar.indexCast v2
  let c27 : Index := 27#32
  ![v1654.toNat, 27]
def k0_off93 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1699 : Index := Scalar.indexCast v2
  let c28 : Index := 28#32
  ![v1699.toNat, 28]
def k0_off94 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1744 : Index := Scalar.indexCast v2
  let c29 : Index := 29#32
  ![v1744.toNat, 29]
def k0_off95 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1789 : Index := Scalar.indexCast v2
  let c30 : Index := 30#32
  ![v1789.toNat, 30]
def k0_off96 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1834 : Index := Scalar.indexCast v2
  let c31 : Index := 31#32
  ![v1834.toNat, 31]
def k0_off97 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1879 : Index := Scalar.indexCast v2
  let c32 : Index := 32#32
  ![v1879.toNat, 32]
def k0_off98 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1924 : Index := Scalar.indexCast v2
  let c33 : Index := 33#32
  ![v1924.toNat, 33]
def k0_off99 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v1969 : Index := Scalar.indexCast v2
  let c34 : Index := 34#32
  ![v1969.toNat, 34]
def k0_off100 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2014 : Index := Scalar.indexCast v2
  let c35 : Index := 35#32
  ![v2014.toNat, 35]
def k0_off101 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2059 : Index := Scalar.indexCast v2
  let c36 : Index := 36#32
  ![v2059.toNat, 36]
def k0_off102 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2104 : Index := Scalar.indexCast v2
  let c37 : Index := 37#32
  ![v2104.toNat, 37]
def k0_off103 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2149 : Index := Scalar.indexCast v2
  let c38 : Index := 38#32
  ![v2149.toNat, 38]
def k0_off104 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2194 : Index := Scalar.indexCast v2
  let c39 : Index := 39#32
  ![v2194.toNat, 39]
def k0_off105 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2239 : Index := Scalar.indexCast v2
  let c40 : Index := 40#32
  ![v2239.toNat, 40]
def k0_off106 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2284 : Index := Scalar.indexCast v2
  let c41 : Index := 41#32
  ![v2284.toNat, 41]
def k0_off107 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2329 : Index := Scalar.indexCast v2
  let c42 : Index := 42#32
  ![v2329.toNat, 42]
def k0_off108 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2374 : Index := Scalar.indexCast v2
  let c43 : Index := 43#32
  ![v2374.toNat, 43]
def k0_off109 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2419 : Index := Scalar.indexCast v2
  let c44 : Index := 44#32
  ![v2419.toNat, 44]
def k0_off110 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2464 : Index := Scalar.indexCast v2
  let c45 : Index := 45#32
  ![v2464.toNat, 45]
def k0_off111 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2509 : Index := Scalar.indexCast v2
  let c46 : Index := 46#32
  ![v2509.toNat, 46]
def k0_off112 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2554 : Index := Scalar.indexCast v2
  let c47 : Index := 47#32
  ![v2554.toNat, 47]
def k0_off113 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2599 : Index := Scalar.indexCast v2
  let c48 : Index := 48#32
  ![v2599.toNat, 48]
def k0_off114 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2644 : Index := Scalar.indexCast v2
  let c49 : Index := 49#32
  ![v2644.toNat, 49]
def k0_off115 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2689 : Index := Scalar.indexCast v2
  let c50 : Index := 50#32
  ![v2689.toNat, 50]
def k0_off116 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2734 : Index := Scalar.indexCast v2
  let c51 : Index := 51#32
  ![v2734.toNat, 51]
def k0_off117 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2779 : Index := Scalar.indexCast v2
  let c52 : Index := 52#32
  ![v2779.toNat, 52]
def k0_off118 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2824 : Index := Scalar.indexCast v2
  let c53 : Index := 53#32
  ![v2824.toNat, 53]
def k0_off119 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2869 : Index := Scalar.indexCast v2
  let c54 : Index := 54#32
  ![v2869.toNat, 54]
def k0_off120 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2914 : Index := Scalar.indexCast v2
  let c55 : Index := 55#32
  ![v2914.toNat, 55]
def k0_off121 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v2959 : Index := Scalar.indexCast v2
  let c56 : Index := 56#32
  ![v2959.toNat, 56]
def k0_off122 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3004 : Index := Scalar.indexCast v2
  let c57 : Index := 57#32
  ![v3004.toNat, 57]
def k0_off123 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3049 : Index := Scalar.indexCast v2
  let c58 : Index := 58#32
  ![v3049.toNat, 58]
def k0_off124 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3094 : Index := Scalar.indexCast v2
  let c59 : Index := 59#32
  ![v3094.toNat, 59]
def k0_off125 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3139 : Index := Scalar.indexCast v2
  let c60 : Index := 60#32
  ![v3139.toNat, 60]
def k0_off126 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3184 : Index := Scalar.indexCast v2
  let c61 : Index := 61#32
  ![v3184.toNat, 61]
def k0_off127 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3229 : Index := Scalar.indexCast v2
  let c62 : Index := 62#32
  ![v3229.toNat, 62]
def k0_off128 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3274 : Index := Scalar.indexCast v2
  let c63 : Index := 63#32
  ![v3274.toNat, 63]
def k0_off129 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3278 : Index := Scalar.indexCast v2
  let c0_835 : Index := 0#32
  ![v3278.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S11x1024x8192 : Shape := ⟨3, ![11, 1024, 8192]⟩
abbrev S8192 : Shape := ⟨1, ![8192]⟩
abbrev S11264x8192 : Shape := ⟨2, ![11264, 8192]⟩
abbrev S_ : Shape := ⟨0, ![]⟩
abbrev S11264 : Shape := ⟨1, ![11264]⟩
abbrev S11264x1 : Shape := ⟨2, ![11264, 1]⟩
abbrev S1x8192 : Shape := ⟨2, ![1, 8192]⟩
abbrev S11264x64x128 : Shape := ⟨3, ![11264, 64, 128]⟩
abbrev S11264x64 : Shape := ⟨2, ![11264, 64]⟩
abbrev S11264x64x1 : Shape := ⟨3, ![11264, 64, 1]⟩

abbrev nBuf : Space → Nat
  | .hbm => 63
  | .vmem => 4
  | .smem => 0
  | _ => 0

abbrev bufTy : (tb : Table) → Fin (tcTables nBuf tb) → BufTy
  | .hbm, ⟨0, _⟩ => ⟨S11x1024x8192, .bf16⟩
  | .hbm, ⟨1, _⟩ => ⟨S8192, .bf16⟩
  | .hbm, ⟨2, _⟩ => ⟨S11x1024x8192, .f32⟩
  | .hbm, ⟨3, _⟩ => ⟨S11264x8192, .f32⟩
  | .hbm, ⟨4, _⟩ => ⟨S11264x8192, .f32⟩
  | .hbm, ⟨5, _⟩ => ⟨S_, .f32⟩
  | .hbm, ⟨6, _⟩ => ⟨S11264, .f32⟩
  | .hbm, ⟨7, _⟩ => ⟨S11264x1, .f32⟩
  | .hbm, ⟨8, _⟩ => ⟨S_, .f32⟩
  | .hbm, ⟨9, _⟩ => ⟨S11264x1, .f32⟩
  | .hbm, ⟨10, _⟩ => ⟨S11264x1, .f32⟩
  | .hbm, ⟨11, _⟩ => ⟨S_, .f32⟩
  | .hbm, ⟨12, _⟩ => ⟨S11264x1, .f32⟩
  | .hbm, ⟨13, _⟩ => ⟨S11264x1, .f32⟩
  | .hbm, ⟨14, _⟩ => ⟨S11264x1, .f32⟩
  | .hbm, ⟨15, _⟩ => ⟨S11264x8192, .f32⟩
  | .hbm, ⟨16, _⟩ => ⟨S11264x8192, .f32⟩
  | .hbm, ⟨17, _⟩ => ⟨S8192, .f32⟩
  | .hbm, ⟨18, _⟩ => ⟨S1x8192, .f32⟩
  | .hbm, ⟨19, _⟩ => ⟨S11264x8192, .f32⟩
  | .hbm, ⟨20, _⟩ => ⟨S11264x8192, .f32⟩
  | .hbm, ⟨21, _⟩ => ⟨S11264x64x128, .f32⟩
  | .hbm, ⟨22, _⟩ => ⟨S11264x64x128, .f32⟩
  | .hbm, ⟨23, _⟩ => ⟨S_, .f32⟩
  | .hbm, ⟨24, _⟩ => ⟨S11264x64, .f32⟩
  | .hbm, ⟨25, _⟩ => ⟨S_, .f32⟩
  | .hbm, ⟨26, _⟩ => ⟨S11264x64, .f32⟩
  | .hbm, ⟨27, _⟩ => ⟨S11264x64, .f32⟩
  | .hbm, ⟨28, _⟩ => ⟨S11264x64, .f32⟩
  | .hbm, ⟨29, _⟩ => ⟨S_, .f32⟩
  | .hbm, ⟨30, _⟩ => ⟨S_, .f32⟩
  | .hbm, ⟨31, _⟩ => ⟨S11264x64, .f32⟩
  | .hbm, ⟨32, _⟩ => ⟨S11264x64, .f32⟩
  | .hbm, ⟨33, _⟩ => ⟨S11264x64, .f32⟩
  | .hbm, ⟨34, _⟩ => ⟨S_, .f32⟩
  | .hbm, ⟨35, _⟩ => ⟨S11264x64, .f32⟩
  | .hbm, ⟨36, _⟩ => ⟨S11264x64, .f32⟩
  | .hbm, ⟨37, _⟩ => ⟨S_, .f32⟩
  | .hbm, ⟨38, _⟩ => ⟨S11264x64, .f32⟩
  | .hbm, ⟨39, _⟩ => ⟨S11264x64, .i1⟩
  | .hbm, ⟨40, _⟩ => ⟨S_, .f32⟩
  | .hbm, ⟨41, _⟩ => ⟨S_, .f32⟩
  | .hbm, ⟨42, _⟩ => ⟨S11264x64, .f32⟩
  | .hbm, ⟨43, _⟩ => ⟨S11264x64, .f32⟩
  | .hbm, ⟨44, _⟩ => ⟨S11264x64, .f32⟩
  | .hbm, ⟨45, _⟩ => ⟨S_, .f32⟩
  | .hbm, ⟨46, _⟩ => ⟨S11264x64, .f32⟩
  | .hbm, ⟨47, _⟩ => ⟨S11264x64, .f32⟩
  | .hbm, ⟨48, _⟩ => ⟨S11264x64x1, .f32⟩
  | .hbm, ⟨49, _⟩ => ⟨S11264x64x128, .f32⟩
  | .hbm, ⟨50, _⟩ => ⟨S11264x64x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S11264x64x128, .f32⟩
  | .hbm, ⟨55, _⟩ => ⟨S11264x64x128, .f32⟩
  | .hbm, ⟨56, _⟩ => ⟨S_, .f32⟩
  | .hbm, ⟨57, _⟩ => ⟨S11264x64x128, .f32⟩
  | .hbm, ⟨58, _⟩ => ⟨S11264x64x128, .f32⟩
  | .hbm, ⟨59, _⟩ => ⟨S11264x8192, .f32⟩
  | .hbm, ⟨60, _⟩ => ⟨S11264x64, .i32⟩
  | .hbm, ⟨61, _⟩ => ⟨S11264x8192, .fp8e4m3⟩
  | .hbm, ⟨62, _⟩ => ⟨S11264x64, .i8⟩
  | .local _ .vmem, ⟨0, _⟩ => ⟨S11264x8192, .f32⟩
  | .local _ .vmem, ⟨1, _⟩ => ⟨S11264x64, .i32⟩
  | .local _ .vmem, ⟨2, _⟩ => ⟨S11264x8192, .fp8e4m3⟩
  | .local _ .vmem, ⟨3, _⟩ => ⟨S11264x64, .i8⟩
  | _, _ => ⟨S11x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40_0 : Ref sig .tc := ⟨.hbm, 61, rfl⟩
abbrev main_v40_1 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S11264x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11264x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11264x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11264x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
/-
  The frame of `Kernel`: it runs, faults nowhere, leaves its two arguments as launched and every semaphore counter at zero.
  Nothing is said here of what the body leaves in a staging buffer (the relational proof data's relation holds of
  anything): neither argument is a window's array, so the frame needs none of it.
-/
module

public import proofs.«01_k».proof.Proof.Gen.Kernel.Frame
public import proofs.«01_k».proof.Proof.Gen.Kernel.Loops
public import Idealize.ShloMosaic.Lib.Quiescent

@[expose] public section

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on whole memrefs at any contents: it runs through its loop and hands every memref back, the two it only reads
    at the contents they had. -/
theorem sound_kernel (c : Dev nD) (E : Set ℕ) (i : grid0.Coords) (arg1 : Memref sig .tc .vmem S256x8192 .bf16) (harg1 : arg1.IsWhole)
    (arg2 : Memref sig .tc .vmem S1x8192 .f32) (harg2 : arg2.IsWhole) (arg3 : Memref sig .tc .vmem S256x8192 .fp8e4m3) (harg3 : arg3.IsWhole)
    (arg4 : Memref sig .tc .vmem S256x64 .i8) (harg4 : arg4.IsWhole) (arg5 : Memref sig .tc .vmem S256x64 .i32) (harg5 : arg5.IsWhole)
    (x1 : Vec F S256x8192 .bf16) (x2 : Vec F S1x8192 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ (∃ d, owns (c : Thread nD τ) arg3 fullShare d) ∗ (∃ d, owns (c : Thread nD τ) arg4 fullShare d)
            ∗ (∃ d, owns (c : Thread nD τ) arg5 fullShare d)) -∗ K ⟨⟩))
      ⊢ wp frame (wpE (defs₀ (F := F)) Variants.none c none) E
          (cc0_rmsnorm_fp8 i arg1 harg1 arg2 harg2 arg3 harg3 arg4 harg4 arg5 harg5) K := by
  simp only [cc0_rmsnorm_fp8_eq_skeleton]; unfold cc0_rmsnorm_fp8_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _, _; isplitr
    swap; · iexact H3
    ipureintro; rfl
  isplitl [H4]
  · iexists _, _; isplitr
    swap; · iexact H4
    ipureintro; rfl
  iexists _, _; isplitr
  swap; · iexact H5
  ipureintro; rfl

/-! ## The proof data: nothing is said of what the body leaves -/

/-- The proof data of the pipeline on core `c`: the arrays as the region finds them, any contents left in any staging buffer,
    the class's invariant (the scratch at anything, the generator register), nothing owed, full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem rA_eq (c : Dev nD) (w : Fin cfg0.W) : (rdats m c).A w = V m c (Pipeline.arrRef spec0 w) := by
  dsimp only [rdats]

/-- What the body is called with at point `t`, the windows one by one, -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3))

/-- and what it returns. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X))

/-- The body at any point: the scratch is taken out of the invariant for it and put back after it. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = Pipeline.ΦA spec0 c from rfl, show (rdats m c).Φ t.castSucc = Pipeline.ΦA spec0 c from rfl,
    show (rdats m c).owesAt () t.succ = (rdats m c).owesAt () t.castSucc from rfl]
  unfold Pipeline.ΦA
  rw [scopedRest0_eq]
  iintro ⟨⟨⟨%fs, HS⟩, HR⟩, Ho, H0, H1, H2, H3⟩
  iapply (sound_kernel c Set.univ _ _ _ _ _ _ _ _ _ _ _ (Y 0) (Y 1) _)
  isplitl [H0]; · iexact H0
  isplitl [H1]; · iexact H1
  isplitl [H2]; · iexists _; iexact H2
  isplitl [H3]; · iexists _; iexact H3
  isplitl [HS]
  · iexists fs; rw [owns_whole]; iexact HS
  iintro ⟨H0, H1, ⟨%d2, H2⟩, ⟨%d3, H3⟩, ⟨%d5, H5⟩⟩
  ihave H5 := (Entails.of_eq (owns_whole (c : Thread nD τ) cc0_scratch0 fullShare d5)) $$ H5
  isplitl [H5 HR]
  · isplitl [H5]
    · iexists d5; iexact H5
    · iexact HR
  isplitl [Ho]; · iexact Ho
  isplitl [H0]
  · iexists (Y 0); isplitr; · ipureintro; trivial
    iexact H0
  isplitl [H1]
  · iexists (Y 1); isplitr; · ipureintro; trivial
    iexact H1
  isplitl [H2]
  · iexists d2; isplitr; · ipureintro; trivial
    iexact H2
  iexists d3; isplitr; · ipureintro; trivial
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
set_option maxHeartbeats 800000 in
/-- THE LAUNCH: every weakly fair execution terminates, every buffer that is no window's array ends as the region found it,
    and every semaphore counter is zero. -/
theorem run_main_quiescent : θ_run defs (onTc (τ := τ) (main (F := F))) (s₀ m ρ)
    (fun r => Pipeline.RDat.FramePost (cfgs 0) (rdats m) (V m) r ∧ r.2.sem = fun _ => 0) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := rA_eq m) (hΦ := fun _ _ => rfl) (Q' := _)

/-- THE FRAME: the two arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main_quiescent m ρ)

end Cert.Kernel.HandFrame

end
-- ==== Proof.Trip.lean ====
/-
  One trip of the kernel's loop, written uniformly in the block of 128 lanes it treats: the printed body unrolls the 64 blocks,
  and here the pieces it stores are ONE function of the block's number.
-/
module

public import proofs.«01_k».proof.Proof.Gen.KernelIdeal.Frame
public import proofs.«01_k».proof.Proof.Gen.KernelIdeal.Loops

@[expose] public section

set_option maxRecDepth 65536

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

/-- The list `[f (n - 1), …, f 1, f 0]`: the pieces of the first `n` blocks, the last stored first. -/
def blocks {α : Type} (f : (b : ℕ) → b < 64 → α) : (n : ℕ) → n ≤ 64 → List α
  | 0, _ => []
  | n + 1, h => f n h :: blocks f n (Nat.le_of_succ_le h)

/-- A member of `blocks f n` is `f b` of a block `b < n`. -/
theorem mem_blocks {α : Type} (f : (b : ℕ) → b < 64 → α) (p : α) :
    ∀ (n : ℕ) (h : n ≤ 64), p ∈ blocks f n h ↔ ∃ (b : ℕ) (hb : b < n), p = f b (Nat.lt_of_lt_of_le hb h)
  | 0, _ => by simp [blocks]
  | n + 1, h => by
    rw [blocks, List.mem_cons, mem_blocks f p n]
    constructor
    · rintro (rfl | ⟨b, hb, rfl⟩)
      · exact ⟨n, Nat.lt_succ_self n, rfl⟩
      · exact ⟨b, Nat.lt_succ_of_lt hb, rfl⟩
    · rintro ⟨b, hb, rfl⟩
      rcases Nat.lt_succ_iff_lt_or_eq.mp hb with hb' | rfl
      · exact .inr ⟨b, hb', rfl⟩
      · exact .inl rfl

/-- The first row of trip `k`, as the kernel computes it, -/
def row (k : Fin k0_t1_loop.trips) : ℕ := (Scalar.indexCast (Scalar.muli (Scf.iv 0#32 1#32 k) 32#32) : Index).toNat
/-- which is `32 k`. -/
theorem row_eq : ∀ k : Fin k0_t1_loop.trips, row k = 32 * k.val := by decide +kernel

theorem trip_lt (k : Fin k0_t1_loop.trips) : k.val < 8 := Nat.lt_of_lt_of_le k.isLt k0_t1_abs.2.1

theorem inbC (k : Fin k0_t1_loop.trips) (b : ℕ) (h : b < 64) : ∀ a, (![row k, 128 * b] : Fin 2 → ℕ) a + S32x128.size a ≤ S256x8192.size a := by
  have hk := trip_lt k
  intro a
  match a with
  | ⟨0, _⟩ => show row k + 32 ≤ 256; rw [row_eq]; omega
  | ⟨1, _⟩ => show 128 * b + 128 ≤ 8192; omega

theorem inbM (k : Fin k0_t1_loop.trips) (b : ℕ) (h : b < 64) : ∀ a, (![row k, b] : Fin 2 → ℕ) a + S32x1.size a ≤ S256x64.size a := by
  have hk := trip_lt k
  intro a
  match a with
  | ⟨0, _⟩ => show row k + 32 ≤ 256; rw [row_eq]; omega
  | ⟨1, _⟩ => show b + 1 ≤ 64; omega

theorem inbB (k : Fin k0_t1_loop.trips) : ∀ a, (![row k, 0] : Fin 2 → ℕ) a + S32x64.size a ≤ S256x64.size a := by
  have hk := trip_lt k
  intro a
  match a with
  | ⟨0, _⟩ => show row k + 32 ≤ 256; rw [row_eq]; omega
  | ⟨1, _⟩ => show 0 + 64 ≤ 64; omega

theorem inbG (b : ℕ) (h : b < 64) : ∀ a, (![0, 128 * b] : Fin 2 → ℕ) a + S1x128.size a ≤ S1x8192.size a := by
  intro a
  match a with
  | ⟨0, _⟩ => show 0 + 1 ≤ 1; omega
  | ⟨1, _⟩ => show 128 * b + 128 ≤ 8192; omega

/-- Block `b` of trip `k`: rows `32 k …` of the lanes `128 b …`, in x and in the codes; -/
abbrev rC (k : Fin k0_t1_loop.trips) (b : ℕ) (h : b < 64) : Rect S256x8192 := Rect.unit (s := S256x8192) ![row k, 128 * b] S32x128.size (inbC k b h)
/-- its column of exponent words in the scratch; -/
abbrev rM (k : Fin k0_t1_loop.trips) (b : ℕ) (h : b < 64) : Rect S256x64 := Rect.unit (s := S256x64) ![row k, b] S32x1.size (inbM k b h)
/-- its lanes of gamma; -/
abbrev rG (b : ℕ) (h : b < 64) : Rect S1x8192 := Rect.unit (s := S1x8192) ![0, 128 * b] S1x128.size (inbG b h)
/-- and trip `k`'s rows of the scratch and of the bytes. -/
abbrev rB (k : Fin k0_t1_loop.trips) : Rect S256x64 := Rect.unit (s := S256x64) ![row k, 0] S32x64.size (inbB k)

/-- The squares of a block of x. -/
def sq (v : Vec F S32x128 .bf16) : FVec F S32x128 .f32 :=
  mulf (extf .f32 (shapeCast S32x128 v shapeCasts_S32x128_S32x128 : FVec F S32x128 .bf16) bitsLt_bf16_f32)
    (extf .f32 (shapeCast S32x128 v shapeCasts_S32x128_S32x128 : FVec F S32x128 .bf16) bitsLt_bf16_f32)

/-- The accumulator of 128 lanes after the squares of the first `n` blocks. -/
def acc (xb : (b : ℕ) → b < 64 → Vec F S32x128 .bf16) : (n : ℕ) → n ≤ 64 → FVec F S32x128 .f32
  | 0, _ => broadcast S32x128 (Scalar.ofBits .f32 0x00000000#32)
  | n + 1, h => addf (acc xb n (Nat.le_of_succ_le h)) (sq (xb n h))

/-- The reciprocal root of the mean square plus epsilon, from the 64 blocks of the trip's rows. -/
def rsq (xb : (b : ℕ) → b < 64 → Vec F S32x128 .bf16) : FVec F S32x1 .f32 :=
  rsqrt (addf (mulf (shapeCast S32x1 (multiReduction .add [1] S32 (acc xb 64 (Nat.le_refl 64)) 0x00000000#32 reduces_S32x128_S32 (.inl rfl) rfl) shapeCasts_S32_S32x1)
    (broadcast S32x1 (Scalar.ofBits .f32 0x39000000#32))) (broadcast S32x1 (Scalar.ofBits .f32 0x358637BD#32)))

section
variable (arg1 : Memref sig .tc .vmem S256x8192 .bf16) (arg2 : Memref sig .tc .vmem S1x8192 .f32) (arg5 : Memref sig .tc .vmem S256x64 .i32)
  (X1 : BufTy.Contents (Elt F) arg1.view.ty) (X2 : BufTy.Contents (Elt F) arg2.view.ty) (k : Fin k0_t1_loop.trips)

/-- What the trip loads of x and gamma at block `b`. -/
abbrev xb (b : ℕ) (h : b < 64) : Vec F S32x128 .bf16 := View.readAt (Elt F) arg1.view (rC k b h).toLoadRect X1
abbrev gb (b : ℕ) (h : b < 64) : Vec F S1x128 .f32 := View.readAt (Elt F) arg2.view (rG b h).toLoadRect X2

/-- What the trip stores at block `b`: the codes, -/
def pieceC (b : ℕ) (h : b < 64) : View.Piece (Elt F) S256x8192 .fp8e4m3 :=
  ⟨rC k b h, k0_pay88 (rsq (xb arg1 X1 k)) k0_pay13 (xb arg1 X1 k b h) (gb arg2 X2 b h)⟩
/-- the exponent words, -/
def pieceM (b : ℕ) (h : b < 64) : View.Piece (Elt F) S256x64 .i32 :=
  ⟨rM k b h, k0_pay89 (k0_pay87 (rsq (xb arg1 X1 k)) k0_pay13 (xb arg1 X1 k b h) (gb arg2 X2 b h))⟩
/-- and, from the words of all the blocks, the bytes. -/
def pieceB : View.Piece (Elt F) S256x64 .i8 :=
  ⟨rB k, k0_pay1 (k0_pay339 (View.readCov arg5.view (blocks (pieceM arg1 arg2 X1 X2 k) 64 (Nat.le_refl 64)) (rB k).toLoadRect)) k0_pay340⟩

end

section
variable (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S256x8192 .fp8e4m3) (harg3 : arg3.IsWhole) (arg4 : Memref sig .tc .vmem S256x64 .i8) (harg4 : arg4.IsWhole) (arg5 : Memref sig .tc .vmem S256x64 .i32) (harg5 : arg5.IsWhole)
  (X1 : BufTy.Contents (Elt F) arg1.view.ty) (X2 : BufTy.Contents (Elt F) arg2.view.ty) (k : Fin k0_t1_loop.trips)
  (f3 : BufTy.Contents (Elt F) arg3.view.ty) (f4 : BufTy.Contents (Elt F) arg4.view.ty) (f5 : BufTy.Contents (Elt F) arg5.view.ty)

/-- The reciprocal root as the trip's run names it. -/
theorem r_11_eq : trip_k0_t1.sl.r_11 (F := F) arg1 X1 k = rsq (xb arg1 X1 k) := by
  rfl

/-- The trip stores the codes of the 64 blocks, -/
theorem codes_eq : (trip_k0_t1 (F := F) 𝒱 c bd i arg1 harg1 arg2 harg2 arg3 harg3 arg4 harg4 arg5 harg5 X1 X2 k).1 f3 f4 f5
    = blocks (pieceC arg1 arg2 X1 X2 k) 64 (Nat.le_refl 64) := by
  unfold trip_k0_t1
  dsimp only
  rfl

/-- The trip stores the exponent words of the 64 blocks in the scratch, -/
theorem words_eq : (trip_k0_t1 (F := F) 𝒱 c bd i arg1 harg1 arg2 harg2 arg3 harg3 arg4 harg4 arg5 harg5 X1 X2 k).2.2.1 f3 f4 f5
    = blocks (pieceM arg1 arg2 X1 X2 k) 64 (Nat.le_refl 64) := by
  unfold trip_k0_t1
  dsimp only
  rfl

/-- and the bytes of its rows. -/
theorem bytes_eq : (trip_k0_t1 (F := F) 𝒱 c bd i arg1 harg1 arg2 harg2 arg3 harg3 arg4 harg4 arg5 harg5 X1 X2 k).2.1 f3 f4 f5
    = [pieceB arg1 arg2 arg5 X1 X2 k] := by
  unfold trip_k0_t1
  dsimp only
  rfl

end

end Cert.KernelIdeal.Trip

end
-- ==== Proof.Body.lean ====
/-
  What one run of the kernel's body leaves in its two output buffers, as functions of the two blocks it reads, at any values: the
  trips' pieces (Trip.lean) all agree with them and cover the buffers.
-/
module

public import proofs.«01_k».proof.Proof.Trip
public import Idealize.ShloMosaic.Lib.Pointwise.Index

@[expose] public section

set_option maxRecDepth 16384

noncomputable section

namespace Cert.KernelIdeal.Body

open Cert.KernelIdeal Cert.KernelIdeal.Gen Cert.KernelIdeal.Trip
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

theorem trips_eq : k0_t1_loop.trips = 8 := by decide

/-- The trip a row belongs to, the block a lane belongs to. -/
def kOf (r : Fin 256) : Fin k0_t1_loop.trips := ⟨r.val / 32, by rw [trips_eq]; omega⟩
def bOf (l : Fin 8192) : Fin 64 := ⟨l.val / 128, by omega⟩

section
variable (x1 : Vec F S256x8192 .bf16) (x2 : Vec F S1x8192 .f32)

/-- Block `b` of trip `k`'s rows of x, block `b` of gamma. -/
abbrev xv (k : Fin k0_t1_loop.trips) (b : ℕ) (h : b < 64) : Vec F S32x128 .bf16 := View.ld x1 (rC k b h)
abbrev gv (b : ℕ) (h : b < 64) : Vec F S1x128 .f32 := View.ld x2 (rG b h)

/-- The codes of block `b` of trip `k`, and its exponent words. -/
abbrev codesK (k : Fin k0_t1_loop.trips) (b : Fin 64) : FVec F S32x128 .fp8e4m3 :=
  k0_pay88 (rsq (xv x1 k)) k0_pay13 (xv x1 k b.val b.isLt) (gv x2 b.val b.isLt)
abbrev wordsK (k : Fin k0_t1_loop.trips) (b : Fin 64) : IVec S32x1 32 :=
  k0_pay89 (k0_pay87 (rsq (xv x1 k)) k0_pay13 (xv x1 k b.val b.isLt) (gv x2 b.val b.isLt))

/-- The codes the body leaves, the exponent words, and the bytes. -/
def codes : Vec F S256x8192 .fp8e4m3 := fun y =>
  codesK x1 x2 (kOf (y 0)) (bOf (y 1)) (ix2 (⟨(y 0).val % 32, Nat.mod_lt _ (by decide)⟩ : Fin 32) (⟨(y 1).val % 128, Nat.mod_lt _ (by decide)⟩ : Fin 128))
def words : Vec F S256x64 .i32 := fun y =>
  wordsK x1 x2 (kOf (y 0)) (y 1) (ix2 (⟨(y 0).val % 32, Nat.mod_lt _ (by decide)⟩ : Fin 32) (0 : Fin 1))
def bytes : Vec F S256x64 .i8 := fun y =>
  k0_pay1 (k0_pay339 (View.ld (words x1 x2) (rB (kOf (y 0))))) k0_pay340 (ix2 (⟨(y 0).val % 32, Nat.mod_lt _ (by decide)⟩ : Fin 32) (y 1))

theorem codes_at (k : Fin k0_t1_loop.trips) (b : Fin 64) (j : S32x128.Idx) (y : S256x8192.Idx)
    (h0 : (y 0).val = 32 * k.val + (j 0).val) (h1 : (y 1).val = 128 * b.val + (j 1).val) : codes x1 x2 y = codesK x1 x2 k b j := by
  have hj0 : (j 0).val < 32 := (j 0).isLt
  have hj1 : (j 1).val < 128 := (j 1).isLt
  have hk : kOf (y 0) = k := Fin.ext (by show (y 0).val / 32 = k.val; omega)
  have hb : bOf (y 1) = b := Fin.ext (by show (y 1).val / 128 = b.val; omega)
  have hj : (ix2 (⟨(y 0).val % 32, Nat.mod_lt _ (by decide)⟩ : Fin 32) (⟨(y 1).val % 128, Nat.mod_lt _ (by decide)⟩ : Fin 128) : S32x128.Idx) = j := by
    funext a
    match a with
    | ⟨0, _⟩ => exact Fin.ext (by show (y 0).val % 32 = (j 0).val; omega)
    | ⟨1, _⟩ => exact Fin.ext (by show (y 1).val % 128 = (j 1).val; omega)
  unfold codes; rw [hk, hb, hj]

theorem words_at (k : Fin k0_t1_loop.trips) (b : Fin 64) (j : S32x1.Idx) (y : S256x64.Idx)
    (h0 : (y 0).val = 32 * k.val + (j 0).val) (h1 : (y 1).val = b.val) : words x1 x2 y = wordsK x1 x2 k b j := by
  have hj0 : (j 0).val < 32 := (j 0).isLt
  have hj1 : (j 1).val < 1 := (j 1).isLt
  have hk : kOf (y 0) = k := Fin.ext (by show (y 0).val / 32 = k.val; omega)
  have hb : y 1 = b := Fin.ext h1
  have hj : (ix2 (⟨(y 0).val % 32, Nat.mod_lt _ (by decide)⟩ : Fin 32) (0 : Fin 1) : S32x1.Idx) = j := by
    funext a
    match a with
    | ⟨0, _⟩ => exact Fin.ext (by show (y 0).val % 32 = (j 0).val; omega)
    | ⟨1, _⟩ => exact Fin.ext (by show 0 = (j 1).val; omega)
  unfold words; rw [hk, hb, hj]

theorem bytes_at (k : Fin k0_t1_loop.trips) (j : S32x64.Idx) (y : S256x64.Idx)
    (h0 : (y 0).val = 32 * k.val + (j 0).val) (h1 : (y 1).val = (j 1).val) :
    bytes x1 x2 y = k0_pay1 (k0_pay339 (View.ld (words x1 x2) (rB k))) k0_pay340 j := by
  have hj0 : (j 0).val < 32 := (j 0).isLt
  have hk : kOf (y 0) = k := Fin.ext (by show (y 0).val / 32 = k.val; omega)
  have hj : (ix2 (⟨(y 0).val % 32, Nat.mod_lt _ (by decide)⟩ : Fin 32) (y 1) : S32x64.Idx) = j := by
    funext a
    match a with
    | ⟨0, _⟩ => exact Fin.ext (by show (y 0).val % 32 = (j 0).val; omega)
    | ⟨1, _⟩ => exact Fin.ext h1
  unfold bytes; rw [hk, hj]

end

/-! ## A trip's pieces agree with them -/

section
variable (arg1 : Memref sig .tc .vmem S256x8192 .bf16) (arg2 : Memref sig .tc .vmem S1x8192 .f32) (arg5 : Memref sig .tc .vmem S256x64 .i32)
  (X1 : BufTy.Contents (Elt F) arg1.view.ty) (X2 : BufTy.Contents (Elt F) arg2.view.ty) (k : Fin k0_t1_loop.trips)

theorem pieceC_agrees (b : ℕ) (h : b < 64) (x : S32x128.Idx) :
    (pieceC arg1 arg2 X1 X2 k b h).2 x = codes (arg1.view.read (Elt F) X1) (arg2.view.read (Elt F) X2) ((rC k b h).emb x) :=
  (codes_at _ _ k ⟨b, h⟩ x _ (by show row k + 1 * (x 0).val = _; rw [row_eq]; omega) (by show 128 * b + 1 * (x 1).val = _; dsimp only; omega)).symm

theorem pieceM_agrees (b : ℕ) (h : b < 64) (x : S32x1.Idx) :
    (pieceM arg1 arg2 X1 X2 k b h).2 x = words (arg1.view.read (Elt F) X1) (arg2.view.read (Elt F) X2) ((rM k b h).emb x) :=
  (words_at _ _ k ⟨b, h⟩ x _ (by show row k + 1 * (x 0).val = _; rw [row_eq]; omega)
    (by have : (x 1).val < 1 := (x 1).isLt; show b + 1 * (x 1).val = _; dsimp only; omega)).symm

/-- The trip reads back from the scratch the words of its own 64 blocks. -/
theorem readback : View.readCov arg5.view (blocks (pieceM arg1 arg2 X1 X2 k) 64 (Nat.le_refl 64)) (rB k).toLoadRect
    = View.ld (words (arg1.view.read (Elt F) X1) (arg2.view.read (Elt F) X2)) (rB k) := by
  funext j
  refine View.read_writes_apply_of_pieces arg5.view arg5.view.junk (words (arg1.view.read (Elt F) X1) (arg2.view.read (Elt F) X2)) _ ?_ _ ?_
  · intro p hp x
    obtain ⟨b, hb, rfl⟩ := (mem_blocks _ p 64 (Nat.le_refl 64)).mp hp
    exact pieceM_agrees arg1 arg2 X1 X2 k b hb x
  · have hj0 : (j 0).val < 32 := (j 0).isLt
    have hj1 : (j 1).val < 64 := (j 1).isLt
    refine ⟨pieceM arg1 arg2 X1 X2 k (j 1).val hj1, (mem_blocks _ _ 64 (Nat.le_refl 64)).mpr ⟨(j 1).val, hj1, rfl⟩, ?_⟩
    refine (Rect.mem_set_unit (inb := inbM k (j 1).val hj1)).mpr fun a => ?_
    match a with
    | ⟨0, _⟩ => show row k ≤ row k + 1 * (j 0).val ∧ row k + 1 * (j 0).val < row k + 32; omega
    | ⟨1, _⟩ => show (j 1).val ≤ 0 + 1 * (j 1).val ∧ 0 + 1 * (j 1).val < (j 1).val + 1; omega

theorem pieceB_agrees (x : S32x64.Idx) :
    (pieceB arg1 arg2 arg5 X1 X2 k).2 x = bytes (arg1.view.read (Elt F) X1) (arg2.view.read (Elt F) X2) ((rB k).emb x) := by
  rw [bytes_at _ _ k x _ (by show row k + 1 * (x 0).val = _; rw [row_eq]; omega) (by show 0 + 1 * (x 1).val = _; omega)]
  unfold pieceB; dsimp only; rw [readback]

end

/-! ## The pieces of all the trips -/

section
variable (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S256x8192 .fp8e4m3) (harg3 : arg3.IsWhole) (arg4 : Memref sig .tc .vmem S256x64 .i8) (harg4 : arg4.IsWhole) (arg5 : Memref sig .tc .vmem S256x64 .i32) (harg5 : arg5.IsWhole)
  (X1 : BufTy.Contents (Elt F) arg1.view.ty) (X2 : BufTy.Contents (Elt F) arg2.view.ty)
  (G3 : BufTy.Contents (Elt F) arg3.view.ty) (G4 : BufTy.Contents (Elt F) arg4.view.ty) (G5 : BufTy.Contents (Elt F) arg5.view.ty)

/-- The pieces of the trips before `n`: the codes of every block of each, -/
theorem mem_pb_codes (p : View.Piece (Elt F) S256x8192 .fp8e4m3) : ∀ n : ℕ, n ≤ k0_t1_loop.trips →
    (p ∈ (pb_k0_t1 (F := F) 𝒱 c bd i arg1 harg1 arg2 harg2 arg3 harg3 arg4 harg4 arg5 harg5 X1 X2 G3 G4 G5 n).1
      ↔ ∃ (k : Fin k0_t1_loop.trips) (b : ℕ) (h : b < 64), k.val < n ∧ p = pieceC arg1 arg2 X1 X2 k b h)
  | 0, _ => by
    constructor
    · intro h; exact absurd h List.not_mem_nil
    · rintro ⟨_, _, _, h, _⟩; exact absurd h (Nat.not_lt_zero _)
  | n + 1, hn => by
    have e := pb_k0_t1_succ (F := F) 𝒱 c bd i arg1 harg1 arg2 harg2 arg3 harg3 arg4 harg4 arg5 harg5 X1 X2 G3 G4 G5 ⟨n, hn⟩
    dsimp only at e
    rw [e, codes_eq, List.mem_append, mem_blocks, mem_pb_codes p n (Nat.le_of_succ_le hn)]
    constructor
    · rintro (⟨b, hb, rfl⟩ | ⟨k, b, h, hk, rfl⟩)
      · exact ⟨⟨n, hn⟩, b, hb, Nat.lt_succ_self n, rfl⟩
      · exact ⟨k, b, h, Nat.lt_succ_of_lt hk, rfl⟩
    · rintro ⟨k, b, h, hk, rfl⟩
      rcases Nat.lt_succ_iff_lt_or_eq.mp hk with hk' | hk'
      · exact .inr ⟨k, b, h, hk', rfl⟩
      · obtain rfl : k = ⟨n, hn⟩ := Fin.ext hk'
        exact .inl ⟨b, h, rfl⟩

/-- and the bytes of the rows of each. -/
theorem mem_pb_bytes (p : View.Piece (Elt F) S256x64 .i8) : ∀ n : ℕ, n ≤ k0_t1_loop.trips →
    (p ∈ (pb_k0_t1 (F := F) 𝒱 c bd i arg1 harg1 arg2 harg2 arg3 harg3 arg4 harg4 arg5 harg5 X1 X2 G3 G4 G5 n).2.1
      ↔ ∃ k : Fin k0_t1_loop.trips, k.val < n ∧ p = pieceB arg1 arg2 arg5 X1 X2 k)
  | 0, _ => by
    constructor
    · intro h; exact absurd h List.not_mem_nil
    · rintro ⟨_, h, _⟩; exact absurd h (Nat.not_lt_zero _)
  | n + 1, hn => by
    have e := pb_k0_t1_succ (F := F) 𝒱 c bd i arg1 harg1 arg2 harg2 arg3 harg3 arg4 harg4 arg5 harg5 X1 X2 G3 G4 G5 ⟨n, hn⟩
    dsimp only at e
    rw [e, bytes_eq, List.mem_append, List.mem_singleton, mem_pb_bytes p n (Nat.le_of_succ_le hn)]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with hk' | hk'
      · exact .inr ⟨k, hk', rfl⟩
      · obtain rfl : k = ⟨n, hn⟩ := Fin.ext hk'
        exact .inl rfl

/-- After the loop the buffer of the codes reads `codes` of the two blocks, -/
theorem read_codes : arg3.view.read (Elt F) (arg3.view.writes (Elt F) G3 (pb_k0_t1 (F := F) 𝒱 c bd i arg1 harg1 arg2 harg2 arg3 harg3 arg4 harg4 arg5 harg5 X1 X2 G3 G4 G5 k0_t1_loop.trips).1)
    = codes (arg1.view.read (Elt F) X1) (arg2.view.read (Elt F) X2) := by
  funext y
  have hy0 : (y 0).val < 256 := (y 0).isLt
  have hy1 : (y 1).val < 8192 := (y 1).isLt
  refine View.read_writes_apply_of_pieces arg3.view G3 (codes (arg1.view.read (Elt F) X1) (arg2.view.read (Elt F) X2)) _ ?_ y ?_
  · intro p hp x
    obtain ⟨k, b, h, -, rfl⟩ := (mem_pb_codes 𝒱 c bd i arg1 harg1 arg2 harg2 arg3 harg3 arg4 harg4 arg5 harg5 X1 X2 G3 G4 G5 p _ (Nat.le_refl _)).mp hp
    exact pieceC_agrees arg1 arg2 X1 X2 k b h x
  · refine ⟨pieceC arg1 arg2 X1 X2 (kOf (y 0)) (bOf (y 1)).val (bOf (y 1)).isLt,
      (mem_pb_codes 𝒱 c bd i arg1 harg1 arg2 harg2 arg3 harg3 arg4 harg4 arg5 harg5 X1 X2 G3 G4 G5 _ _ (Nat.le_refl _)).mpr ⟨_, _, _, (kOf (y 0)).isLt, rfl⟩, ?_⟩
    refine (Rect.mem_set_unit (inb := inbC (kOf (y 0)) (bOf (y 1)).val (bOf (y 1)).isLt)).mpr fun a => ?_
    match a with
    | ⟨0, _⟩ =>
      show row (kOf (y 0)) ≤ (y 0).val ∧ (y 0).val < row (kOf (y 0)) + 32
      rw [row_eq]; show 32 * ((y 0).val / 32) ≤ (y 0).val ∧ (y 0).val < 32 * ((y 0).val / 32) + 32; omega
    | ⟨1, _⟩ => show 128 * ((y 1).val / 128) ≤ (y 1).val ∧ (y 1).val < 128 * ((y 1).val / 128) + 128; omega

/-- and the buffer of the bytes `bytes` of them. -/
theorem read_bytes : arg4.view.read (Elt F) (arg4.view.writes (Elt F) G4 (pb_k0_t1 (F := F) 𝒱 c bd i arg1 harg1 arg2 harg2 arg3 harg3 arg4 harg4 arg5 harg5 X1 X2 G3 G4 G5 k0_t1_loop.trips).2.1)
    = bytes (arg1.view.read (Elt F) X1) (arg2.view.read (Elt F) X2) := by
  funext y
  have hy0 : (y 0).val < 256 := (y 0).isLt
  have hy1 : (y 1).val < 64 := (y 1).isLt
  refine View.read_writes_apply_of_pieces arg4.view G4 (bytes (arg1.view.read (Elt F) X1) (arg2.view.read (Elt F) X2)) _ ?_ y ?_
  · intro p hp x
    obtain ⟨k, -, rfl⟩ := (mem_pb_bytes 𝒱 c bd i arg1 harg1 arg2 harg2 arg3 harg3 arg4 harg4 arg5 harg5 X1 X2 G3 G4 G5 p _ (Nat.le_refl _)).mp hp
    exact pieceB_agrees arg1 arg2 arg5 X1 X2 k x
  · refine ⟨pieceB arg1 arg2 arg5 X1 X2 (kOf (y 0)),
      (mem_pb_bytes 𝒱 c bd i arg1 harg1 arg2 harg2 arg3 harg3 arg4 harg4 arg5 harg5 X1 X2 G3 G4 G5 _ _ (Nat.le_refl _)).mpr ⟨_, (kOf (y 0)).isLt, rfl⟩, ?_⟩
    refine (Rect.mem_set_unit (inb := inbB (kOf (y 0)))).mpr fun a => ?_
    match a with
    | ⟨0, _⟩ =>
      show row (kOf (y 0)) ≤ (y 0).val ∧ (y 0).val < row (kOf (y 0)) + 32
      rw [row_eq]; show 32 * ((y 0).val / 32) ≤ (y 0).val ∧ (y 0).val < 32 * ((y 0).val / 32) + 32; omega
    | ⟨1, _⟩ => show 0 ≤ (y 1).val ∧ (y 1).val < 0 + 64; omega

end

end Cert.KernelIdeal.Body

end
-- ==== Proof.IdealRun.lean ====
/-
  The run of `KernelIdeal`: it runs, faults nowhere, leaves its two arguments as launched and every semaphore counter at zero, and
  each output's array ends with, block by block, what the body leaves of the two blocks it reads (Body.lean).
-/
module

public import proofs.«01_k».proof.Proof.Gen.KernelIdeal.Frame
public import proofs.«01_k».proof.Proof.Gen.KernelIdeal.Loops
public import proofs.«01_k».proof.Proof.Body
public import Idealize.ShloMosaic.Lib.Claim
public import Idealize.ShloMosaic.Lib.Quiescent

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on whole memrefs, the two it reads at `x1` and `x2`: it runs through its loop and hands them back as they were, the
    codes and the bytes of them in the next two, the scratch at anything. -/
theorem sound_kernel (c : Dev nD) (E : Set ℕ) (i : grid0.Coords) (arg1 : Memref sig .tc .vmem S256x8192 .bf16) (harg1 : arg1.IsWhole)
    (arg2 : Memref sig .tc .vmem S1x8192 .f32) (harg2 : arg2.IsWhole) (arg3 : Memref sig .tc .vmem S256x8192 .fp8e4m3) (harg3 : arg3.IsWhole)
    (arg4 : Memref sig .tc .vmem S256x64 .i8) (harg4 : arg4.IsWhole) (arg5 : Memref sig .tc .vmem S256x64 .i32) (harg5 : arg5.IsWhole)
    (x1 : Vec F S256x8192 .bf16) (x2 : Vec F S1x8192 .f32) (K : PUnit → sProp 𝕄) :
    iprop(owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x1 ∗ owns (c : Thread nD τ) arg2 fullShare x2
            ∗ owns (c : Thread nD τ) arg3 fullShare (codes x1 x2) ∗ owns (c : Thread nD τ) arg4 fullShare (bytes x1 x2)
            ∗ (∃ d, owns (c : Thread nD τ) arg5 fullShare d)) -∗ K ⟨⟩))
      ⊢ wp frame (wpE (defs₀ (F := F)) Variants.none c none) E
          (cc0_rmsnorm_fp8 i arg1 harg1 arg2 harg2 arg3 harg3 arg4 harg4 arg5 harg5) K := by
  simp only [cc0_rmsnorm_fp8_eq_skeleton]; unfold cc0_rmsnorm_fp8_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact read_codes _ _ _ _ _ _ _ _ _ _ _ _ _ _ _ _ _ _ _
  isplitl [H4]
  · iexists _; isplitr
    swap; · iexact H4
    ipureintro
    exact read_bytes _ _ _ _ _ _ _ _ _ _ _ _ _ _ _ _ _ _ _
  iexists _, _; isplitr
  swap; · iexact H5
  ipureintro; rfl

/-! ## The proof data -/

/-- The proof data of the pipeline on core `c`: the arrays as the region finds them, after the body each input's buffer at its
    block and the outputs' at the codes and the bytes of the two blocks, the class's invariant (the scratch at anything, the
    generator register), nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codes (iblk m c 0 t) (iblk m c 1 t)
    | ⟨3, _⟩ => bytes (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codes (iblk m c 0 t) (iblk m c 1 t) := by dsimp only [dats]
theorem after0_3 (c : Dev nD) (t : Fin cfg0.N) : (dats m 0 c).after 3 t = bytes (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the scratch is taken out of the invariant for it and put back after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scopedRest0_eq]
  iintro ⟨⟨⟨%fs, HS⟩, HR⟩, Ho, ⟨%d0, H0⟩, ⟨%d1, H1⟩, ⟨%d2, H2⟩, ⟨%d3, H3⟩⟩
  iapply (sound_kernel c Set.univ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [HS]
  · iexists fs; rw [owns_whole]; iexact HS
  iintro ⟨H0, H1, H2, H3, ⟨%d5, H5⟩⟩
  ihave H5 := (Entails.of_eq (owns_whole (c : Thread nD τ) cc0_scratch0 fullShare d5)) $$ H5
  isplitl [H5 HR]
  · isplitl [H5]
    · iexists d5; iexact H5
    · iexact HR
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: every weakly fair execution terminates, every array of the pipeline ends at what the library computes from the
    proof data, every other buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the two arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelPure.lean ====
/-
  What the kernel's body computes for one row of a 32-row group, at the ideal values and at an index.
-/
module

public import proofs.«01_k».proof.Proof.Body
public import Idealize.ShloMosaic.Lib.Pointwise

@[expose] public section

set_option maxRecDepth 16384

noncomputable section

namespace Cert.KernelIdeal.Pure

open Cert.KernelIdeal Cert.KernelIdeal.Gen Cert.KernelIdeal.Body
open Idealize.ShloMosaic Idealize.ShloMosaic.TcCoe Idealize.SL.Sem

/-- The exponent field of a scale, as the kernel finds it: the greatest of the 256 words `k · 2²³` whose float does not exceed
    the scale. -/
def field0 (s : EReal) : BitVec 32 :=
  Finset.fold IntOp.maxsi 2147483648#32
    (fun k : Fin 256 => if s < Ideal.ofBits .f32 (IntOp.shli .vector (BitVec.ofNat 32 k) 23#32) then 0#32
      else IntOp.shli .vector (BitVec.ofNat 32 k) 23#32) Finset.univ

/-- The field with 0 replaced by that of one half. -/
def field (s : EReal) : BitVec 32 := Scalar.select (IntOp.cmpi .eq (field0 s) 0#32) 1056964608#32 (field0 s)

/-- A block's scale: its greatest magnitude times 1/448. -/
def scale (y : Fin 128 → EReal) : EReal :=
  Finset.fold max (Ideal.ofBits .f32 0xFF800000#32) (fun l => FloatOps.absf (F := Ideal) (φ := .f32) (y l)) Finset.univ * Ideal.ofBits .f32 0x3B124925#32

/-- An element's code, from the element and its block's scale. -/
def code (y s : EReal) : EReal :=
  min (Ideal.ofBits .f32 0x43E00000#32) (max (Ideal.ofBits .f32 0xC3E00000#32)
    (y * Ideal.ofBits .f32 (IntOp.subi 2122317824#32 (field s))))

/-- A block's exponent byte, from its scale. -/
def byte (s : EReal) : BitVec 8 := (IntOp.addi (IntOp.shrsi .vector (field s) 23#32) 1#32).setWidth 8

theorem codesAt (rs : FVec Ideal S32x1 .f32) (x : FVec Ideal S32x128 .bf16) (g : FVec Ideal S1x128 .f32) (r : Fin 32) (l : Fin 128) :
    k0_pay88 (F := Ideal) rs k0_pay13 x g (ix2 r l)
      = code (x (ix2 r l) * rs (ix2 r 0) * g (ix2 0 l)) (scale fun k => x (ix2 r k) * rs (ix2 r 0) * g (ix2 0 k)) := by
  pointwise [k0_pay88, k0_pay87, k0_pay86, k0_pay13]
  rfl

theorem wordsAt (rs : FVec Ideal S32x1 .f32) (x : FVec Ideal S32x128 .bf16) (g : FVec Ideal S1x128 .f32) (r : Fin 32) :
    k0_pay89 (k0_pay87 (F := Ideal) rs k0_pay13 x g) (ix2 r 0) = field (scale fun k => x (ix2 r k) * rs (ix2 r 0) * g (ix2 0 k)) := by
  pointwise [k0_pay89, k0_pay87, k0_pay86, k0_pay13]
  rfl

theorem bytesAt (w : IVec S32x64 32) (r : Fin 32) (b : Fin 64) :
    k0_pay1 (k0_pay339 (F := Ideal) w) k0_pay340 (ix2 r b) = (IntOp.addi (IntOp.shrsi .vector (w (ix2 r b)) 23#32) 1#32).setWidth 8 := by
  pointwise [k0_pay1, k0_pay339, k0_pay340]
  try rfl

theorem sqAt (v : FVec Ideal S32x128 .bf16) (r : Fin 32) (l : Fin 128) : Trip.sq (F := Ideal) v (ix2 r l) = v (ix2 r l) * v (ix2 r l) := by
  pointwise [Trip.sq]

/-- The lane sums are the sums over the blocks. -/
theorem accAt (xb : (b : ℕ) → b < 64 → FVec Ideal S32x128 .bf16) (r : Fin 32) (l : Fin 128) : ∀ (n : ℕ) (h : n ≤ 64),
    Trip.acc (F := Ideal) xb n h (ix2 r l) = ∑ b : Fin n, xb b (by omega) (ix2 r l) * xb b (by omega) (ix2 r l)
  | 0, h => by
    simp only [Finset.univ_eq_empty, Finset.sum_empty]
    pointwise [Trip.acc]
  | n + 1, h => by
    rw [Fin.sum_univ_castSucc]
    show (_ : EReal) + _ = _
    rw [accAt xb r l n (by omega), sqAt]
    rfl

theorem rsqAt (xb : (b : ℕ) → b < 64 → FVec Ideal S32x128 .bf16) (r : Fin 32) :
    Trip.rsq (F := Ideal) xb (ix2 r 0) = Ideal.rsqrt ((∑ l : Fin 128, ∑ b : Fin 64, xb b b.isLt (ix2 r l) * xb b b.isLt (ix2 r l))
      * Ideal.ofBits .f32 0x39000000#32 + Ideal.ofBits .f32 0x358637BD#32) := by
  pointwise [Trip.rsq]
  simp only [accAt]

/-! ## A row of the block -/

/-- The reciprocal root of a row's mean square. -/
def rowRs (x : Fin 8192 → EReal) : EReal :=
  Ideal.rsqrt ((∑ l : Fin 128, ∑ b : Fin 64, x ⟨128 * b + l, by omega⟩ * x ⟨128 * b + l, by omega⟩)
    * Ideal.ofBits .f32 0x39000000#32 + Ideal.ofBits .f32 0x358637BD#32)

/-- The normalized row times gamma. -/
def rowY (x g : Fin 8192 → EReal) (j : Fin 8192) : EReal := x j * rowRs x * g j

/-- The scale of a row's block. -/
def rowS (x g : Fin 8192 → EReal) (b : Fin 64) : EReal := scale fun l => rowY x g ⟨128 * b + l, by omega⟩

section
variable (x1 : FVec Ideal S256x8192 .bf16) (x2 : FVec Ideal S1x8192 .f32)

theorem xv_at (k : Fin k0_t1_loop.trips) (b : ℕ) (h : b < 64) (a : Fin 32) (l : Fin 128) (r : Fin 256) (hr : r.val = 32 * k.val + a.val) :
    xv (F := Ideal) x1 k b h (ix2 a l) = x1 (ix2 r (⟨128 * b + l, by omega⟩ : Fin 8192)) := by
  refine congrArg x1 ?_
  funext i
  match i with
  | ⟨0, _⟩ => exact Fin.ext (by show Trip.row k + 1 * a.val = r.val; rw [Trip.row_eq]; omega)
  | ⟨1, _⟩ => exact Fin.ext (by show 128 * b + 1 * l.val = 128 * b + l.val; omega)

theorem gv_at (b : ℕ) (h : b < 64) (l : Fin 128) :
    gv (F := Ideal) x2 b h (ix2 (0 : Fin 1) l) = x2 (ix2 (0 : Fin 1) (⟨128 * b + l, by omega⟩ : Fin 8192)) := by
  refine congrArg x2 ?_
  funext i
  match i with
  | ⟨0, _⟩ => exact Fin.ext (by show 0 + 1 * 0 = 0; omega)
  | ⟨1, _⟩ => exact Fin.ext (by show 128 * b + 1 * l.val = 128 * b + l.val; omega)

/-- The row and its reciprocal root. -/
theorem rsq_at (k : Fin k0_t1_loop.trips) (a : Fin 32) (r : Fin 256) (hr : r.val = 32 * k.val + a.val) :
    Trip.rsq (F := Ideal) (xv x1 k) (ix2 a (0 : Fin 1)) = rowRs fun j => x1 (ix2 r j) := by
  rw [rsqAt]
  unfold rowRs
  simp only [fun (b : Fin 64) (l : Fin 128) => xv_at x1 k b.val b.isLt a l r hr]

/-- An element of block `b`. -/
theorem elem_at (k : Fin k0_t1_loop.trips) (b : Fin 64) (a : Fin 32) (l : Fin 128) (r : Fin 256) (hr : r.val = 32 * k.val + a.val) :
    xv (F := Ideal) x1 k b.val b.isLt (ix2 a l) * Trip.rsq (F := Ideal) (xv x1 k) (ix2 a (0 : Fin 1)) * gv (F := Ideal) x2 b.val b.isLt (ix2 (0 : Fin 1) l)
      = rowY (fun j => x1 (ix2 r j)) (fun j => x2 (ix2 (0 : Fin 1) j)) ⟨128 * b + l, by omega⟩ := by
  rw [xv_at x1 k b.val b.isLt a l r hr, rsq_at x1 k a r hr, gv_at]
  rfl

/-- The codes of the block, at a row and a lane. -/
theorem codes_row (r : Fin 256) (l : Fin 8192) :
    codes (F := Ideal) x1 x2 (ix2 r l) = code (rowY (fun j => x1 (ix2 r j)) (fun j => x2 (ix2 (0 : Fin 1) j)) l)
      (rowS (fun j => x1 (ix2 r j)) (fun j => x2 (ix2 (0 : Fin 1) j)) ⟨l / 128, by omega⟩) := by
  have hr : r.val = 32 * (kOf r).val + (⟨r % 32, by omega⟩ : Fin 32).val := by show r.val = 32 * (r.val / 32) + r.val % 32; omega
  have hl : l.val = 128 * (bOf l).val + (⟨l % 128, by omega⟩ : Fin 128).val := by show l.val = 128 * (l.val / 128) + l.val % 128; omega
  rw [codes_at (F := Ideal) x1 x2 (kOf r) (bOf l) (ix2 (⟨r % 32, by omega⟩ : Fin 32) (⟨l % 128, by omega⟩ : Fin 128)) (ix2 r l) hr hl]
  unfold codesK
  rw [codesAt]
  refine congrArg₂ code ((elem_at x1 x2 (kOf r) (bOf l) _ _ r hr).trans ?_) ?_
  · congr 1
    exact Fin.ext (by show 128 * (l.val / 128) + l.val % 128 = l.val; omega)
  · exact congrArg scale (funext fun q => elem_at x1 x2 (kOf r) (bOf l) _ q r hr)

/-- The bytes of the block, at a row and a block of lanes. -/
theorem bytes_row (r : Fin 256) (b : Fin 64) :
    bytes (F := Ideal) x1 x2 (ix2 r b) = byte (rowS (fun j => x1 (ix2 r j)) (fun j => x2 (ix2 (0 : Fin 1) j)) b) := by
  have hr : r.val = 32 * (kOf r).val + (⟨r % 32, by omega⟩ : Fin 32).val := by show r.val = 32 * (r.val / 32) + r.val % 32; omega
  rw [bytes_at (F := Ideal) x1 x2 (kOf r) (ix2 (⟨r % 32, by omega⟩ : Fin 32) b) (ix2 r b) hr rfl, bytesAt]
  have hw : View.ld (words (F := Ideal) x1 x2) (Trip.rB (kOf r)) (ix2 (⟨r % 32, by omega⟩ : Fin 32) b)
      = field (rowS (fun j => x1 (ix2 r j)) (fun j => x2 (ix2 (0 : Fin 1) j)) b) := by
    refine (words_at (F := Ideal) x1 x2 (kOf r) b (ix2 (⟨r % 32, by omega⟩ : Fin 32) (0 : Fin 1)) _
      (by show Trip.row (kOf r) + 1 * (r.val % 32) = 32 * (kOf r).val + r.val % 32; rw [Trip.row_eq]; omega)
      (by show 0 + 1 * b.val = b.val; omega)).trans ?_
    refine (wordsAt _ _ _ _).trans ?_
    exact congrArg (fun y => field (scale y)) (funext fun q => elem_at x1 x2 (kOf r) b _ q r hr)
  exact congrArg (fun w : BitVec 32 => (IntOp.addi (IntOp.shrsi .vector w 23#32) 1#32).setWidth 8) hw

end

end Cert.KernelIdeal.Pure
-- ==== Proof.Words.lean ====
/-
  Facts about the 256 words `k · 2²³`, each decided over all of them.
-/
module

public import proofs.«01_k».proof.Proof.KernelPure

@[expose] public section

set_option maxRecDepth 16384

noncomputable section

namespace Cert.KernelIdeal.Scalar

open Cert.KernelIdeal.Pure
open Idealize.ShloMosaic

/-- The word `k · 2²³`. -/
abbrev word (k : ℕ) : BitVec 32 := IntOp.shli .vector (BitVec.ofNat 32 k) 23#32

/-- The three fields of the word `k · 2²³`: sign clear, exponent `k`, fraction 0. -/
theorem word_fields : ∀ k : Fin 256, ((word k).extractLsb' 31 1 == 1#1) = false ∧ ((word k).extractLsb' 23 8).toNat = k.val
    ∧ ((word k).extractLsb' 0 23).toNat = 0 := by decide +kernel

/-- The greatest of the words up to the `K`-th is the `K`-th. -/
theorem fold_words : ∀ K : Fin 253, Finset.fold IntOp.maxsi 2147483648#32 (fun k : Fin 256 => if K.val < k.val then 0#32 else word k) Finset.univ
    = word K := by decide +kernel

/-- The inverse scale's word and the exponent byte, from the field. -/
theorem sub_word : ∀ F : Fin 253, IntOp.subi 2122317824#32 (word F) = word (253 - F.val) := by decide +kernel
theorem byte_word : ∀ F : Fin 253, ((IntOp.addi (IntOp.shrsi .vector (word F) 23#32) 1#32).setWidth 8 : BitVec 8)
    = (IntOp.addi (BitVec.ofInt 32 ((F.val : ℤ) - 126)) 127#32).setWidth 8 := by decide +kernel
theorem field_word : ∀ K : Fin 253, Scalar.select (IntOp.cmpi .eq (word K) 0#32) 1056964608#32 (word K)
    = word (if K.val = 0 then 126 else K.val) := by decide +kernel

end Cert.KernelIdeal.Scalar
-- ==== Proof.Scalar.lean ====
/-
  The arithmetic of the quantiser at one scale, over the extended reals: the exponent field the kernel finds by comparing the scale
  with the 256 powers of two is the one the reference computes from the scale's logarithm.
-/
module

public import proofs.«01_k».proof.Proof.Words

@[expose] public section

set_option maxRecDepth 16384

noncomputable section

namespace Cert.KernelIdeal.Scalar

open Cert.KernelIdeal.Pure
open Idealize.ShloMosaic

theorem zpow_step (k : ℤ) : ((8388608 : ℝ)) * (2 : ℝ) ^ (k - 127 - 23) = (2 : ℝ) ^ (k - 127) := by
  have h : ((8388608 : ℝ)) = (2 : ℝ) ^ (23 : ℤ) := by norm_num
  rw [h, ← zpow_add₀ (by norm_num : (2 : ℝ) ≠ 0)]
  congr 1
  ring

/-- Its float: 0, a power of two, or infinity. -/
theorem word_val (k : Fin 256) : Ideal.ofBits .f32 (word k)
    = if k.val = 255 then ⊤ else if k.val = 0 then 0 else (((2 : ℝ) ^ ((k.val : ℤ) - 127) : ℝ) : EReal) := by
  obtain ⟨h1, h2, h3⟩ := word_fields k
  show Ideal.ieee 8 23 (word k) = _
  unfold Ideal.ieee
  generalize word k = w at h1 h2 h3 ⊢
  simp only [Nat.reduceAdd, h1, h2, h3]
  by_cases h : k.val = 255
  · rw [if_pos (by rw [h]; norm_num), if_pos h]
    simp
  · rw [if_neg (by simpa using h), if_neg h]
    by_cases h0 : k.val = 0
    · rw [if_pos h0, if_pos h0]; simp
    · rw [if_neg h0, if_neg h0]
      refine congrArg (fun x : ℝ => (x : EReal)) ?_
      rw [← zpow_step]
      norm_num

end Cert.KernelIdeal.Scalar
-- ==== Proof.Exponent.lean ====
/-
  The exponent of a scale. The kernel finds it by comparing the scale with the 256 words `k · 2²³` read as floats, the reference by
  taking the floor of the scale's logarithm to base 2. On every scale the kernel can meet the two agree.
-/
module

public import proofs.«01_k».proof.Proof.Scalar
public import Mathlib.Analysis.SpecialFunctions.Pow.Real

@[expose] public section

set_option maxRecDepth 16384

noncomputable section

namespace Cert.KernelIdeal.Scalar

open Cert.KernelIdeal.Pure
open Idealize.ShloMosaic

/-- A positive real lies between the powers of two at the floor of its logarithm to base 2. -/
theorem zpow_floor (r : ℝ) (h : 0 < r) : (2 : ℝ) ^ ⌊Real.log r * (1 / Real.log 2)⌋ ≤ r
    ∧ r < (2 : ℝ) ^ (⌊Real.log r * (1 / Real.log 2)⌋ + 1) := by
  have h2 : 0 < Real.log 2 := Real.log_pos (by norm_num)
  have hx : Real.log r = (Real.log r * (1 / Real.log 2)) * Real.log 2 := by field_simp
  generalize hX : Real.log r * (1 / Real.log 2) = X at hx ⊢
  constructor
  · rw [← Real.log_le_log_iff (by positivity) h, Real.log_zpow, hx]
    exact mul_le_mul_of_nonneg_right (Int.floor_le X) h2.le
  · rw [← Real.log_lt_log_iff h (by positivity), Real.log_zpow, hx]
    refine mul_lt_mul_of_pos_right ?_ h2
    push_cast
    exact Int.lt_floor_add_one X

/-- The floats of the words for `2⁻¹²⁶` and 2. -/
theorem ofBits_tiny : Ideal.ofBits .f32 0x00800000#32 = (((2 : ℝ) ^ (-126 : ℤ) : ℝ) : EReal) := by
  have h := word_val 1
  rw [show word (1 : Fin 256).val = 0x00800000#32 from by decide] at h
  rw [h, if_neg (by decide), if_neg (by decide)]
  rfl
theorem ofBits_two : Ideal.ofBits .f32 0x40000000#32 = ((2 : ℝ) : EReal) := by
  have h := word_val 128
  rw [show word (128 : Fin 256).val = 0x40000000#32 from by decide] at h
  rw [h, if_neg (by decide), if_neg (by decide)]
  refine congrArg (fun x : ℝ => (x : EReal)) ?_
  norm_num

/-- The reference's exponent of a scale. -/
def refExp (s : EReal) : EReal :=
  if s < Ideal.ofBits .f32 0x00800000#32 then 0
  else Ideal.liftRound Int.floor (Ideal.div (Ideal.log s) (Ideal.log (Ideal.ofBits .f32 0x40000000#32))) + 1

/-- It is 0 below the least normal float … -/
theorem refExp_small (r : ℝ) (h : r < (2 : ℝ) ^ (-126 : ℤ)) : refExp r = 0 := by
  unfold refExp
  rw [ofBits_tiny, if_pos (EReal.coe_lt_coe_iff.mpr h)]

/-- … and one above the floor of the logarithm otherwise. -/
theorem refExp_large (r : ℝ) (h : (2 : ℝ) ^ (-126 : ℤ) ≤ r) :
    refExp r = (((⌊Real.log r * (1 / Real.log 2)⌋ + 1 : ℤ) : ℝ) : EReal) := by
  have hr : 0 < r := lt_of_lt_of_le (by positivity) h
  have h2 : 0 < Real.log 2 := Real.log_pos (by norm_num)
  unfold refExp
  rw [ofBits_tiny, if_neg (not_lt.mpr (EReal.coe_le_coe_iff.mpr h)), ofBits_two, Ideal.log_coe, Ideal.log_coe,
    if_neg (not_le.mpr hr), if_neg (by norm_num), Ideal.div_coe h2.ne', ← EReal.coe_mul, Ideal.liftRound_coe]
  push_cast
  rfl

/-- The kernel's field when the words whose float exceeds the scale are those above the `K`-th. -/
theorem field_of (s : EReal) (K : Fin 253) (h : ∀ k : Fin 256, s < Ideal.ofBits .f32 (word k) ↔ K.val < k.val) :
    field s = word (if K.val = 0 then 126 else K.val) := by
  have h0 : field0 s = word K := by
    rw [← fold_words K]
    unfold field0
    refine Finset.fold_congr fun k _ => ?_
    exact if_congr (h k) rfl rfl
  unfold field
  rw [h0, field_word]

/-- Both exponents of a scale below `2¹²⁶`. -/
theorem exponents (r : ℝ) (h0 : 0 ≤ r) (h1 : r < (2 : ℝ) ^ (126 : ℤ)) :
    ∃ E : ℤ, -126 ≤ E ∧ E ≤ 126 ∧ field r = word (E + 126).toNat ∧ refExp r = ((E : ℝ) : EReal) := by
  have one : (1 : ℝ) < 2 := by norm_num
  by_cases hs : r < (2 : ℝ) ^ (-126 : ℤ)
  · refine ⟨0, by norm_num, by norm_num, ?_, ?_⟩
    · rw [field_of r 0]
      · rfl
      · intro k
        rw [word_val]
        split_ifs with ha hb
        · simp [ha, EReal.coe_lt_top]
        · simp only [hb, Fin.val_zero, lt_irrefl, iff_false, not_lt]
          exact_mod_cast h0
        · refine ⟨fun _ => by simp; omega, fun _ => EReal.coe_lt_coe_iff.mpr (lt_of_lt_of_le hs ?_)⟩
          exact zpow_le_zpow_right₀ one.le (by omega)
    · rw [refExp_small r hs]; simp
  · rw [not_lt] at hs
    have hr : 0 < r := lt_of_lt_of_le (by positivity) hs
    obtain ⟨l, u⟩ := zpow_floor r hr
    have hE := refExp_large r hs
    generalize ⌊Real.log r * (1 / Real.log 2)⌋ = e at l u hE
    have e1 : e < 126 := (zpow_lt_zpow_iff_right₀ one).mp (lt_of_le_of_lt l h1)
    have e0 : -126 < e + 1 := (zpow_lt_zpow_iff_right₀ one).mp (lt_of_le_of_lt hs u)
    refine ⟨e + 1, by omega, by omega, ?_, hE⟩
    rw [field_of r ⟨(e + 127).toNat, by omega⟩]
    · rw [if_neg (by simp only; omega)]
      congr 1; simp only; omega
    · intro k
      rw [word_val]
      simp only
      have hk := k.isLt
      split_ifs with ha hb
      · simp only [EReal.coe_lt_top, true_iff]; omega
      · rw [hb]
        simp only [not_lt_zero', iff_false, not_lt]
        exact_mod_cast h0
      · rw [EReal.coe_lt_coe_iff]
        constructor
        · intro h
          have := (zpow_lt_zpow_iff_right₀ one).mp (lt_of_le_of_lt l h)
          omega
        · intro h
          exact lt_of_lt_of_le u (zpow_le_zpow_right₀ one.le (by omega))

/-- The float of the inverse scale's word is the power of two the reference multiplies by. -/
theorem inverse_scale (E : ℤ) (h0 : -126 ≤ E) (h1 : E ≤ 126) :
    Ideal.ofBits .f32 (IntOp.subi 2122317824#32 (word (E + 126).toNat))
      = Ideal.pow (Ideal.ofBits .f32 0x40000000#32) (-((E : ℝ) : EReal)) := by
  have hs := sub_word ⟨(E + 126).toNat, by omega⟩
  have hv := word_val ⟨253 - (E + 126).toNat, by omega⟩
  simp only at hs hv
  rw [hs, hv, if_neg (by omega), if_neg (by omega), ofBits_two, ← EReal.coe_neg, Ideal.pow_coe_coe]
  refine congrArg (fun x : ℝ => (x : EReal)) ?_
  have : Real.rpow 2 (-(E : ℝ)) = (2 : ℝ) ^ (-E : ℤ) := by
    rw [← Real.rpow_intCast]; push_cast; rfl
  rw [this]
  congr 1
  omega

/-- The exponent byte is the reference's biased exponent. -/
theorem exponent_byte (E : ℤ) (h0 : -126 ≤ E) (h1 : E ≤ 126) :
    ((IntOp.addi (IntOp.shrsi .vector (word (E + 126).toNat) 23#32) 1#32).setWidth 8 : BitVec 8)
      = (IntOp.addi (Ideal.fptosi 32 ((E : ℝ) : EReal)) 127#32).setWidth 8 := by
  have hs := byte_word ⟨(E + 126).toNat, by omega⟩
  simp only at hs
  have ht : Ideal.toIntClamped (-(2 ^ (32 - 1) : Nat)) ((2 ^ (32 - 1) : Nat) - 1) ((E : ℝ) : EReal) = E := by
    rw [Ideal.toIntClamped_coe, Int.floor_intCast, Int.ceil_intCast, ite_self, min_eq_right (by norm_num; omega),
      max_eq_right (by norm_num; omega)]
  have hf : Ideal.fptosi 32 ((E : ℝ) : EReal) = BitVec.ofInt 32 E := congrArg (BitVec.ofInt 32) ht
  rw [hs, hf, show ((E + 126).toNat : ℤ) - 126 = E by omega]

end Cert.KernelIdeal.Scalar
-- ==== Proof.Bound.lean ====
/-
  A row normalized and multiplied by a finite gamma is finite, and its blocks' scales stay below `2¹²⁶`: whatever the row holds,
  infinities included.
-/
module

public import proofs.«01_k».proof.Proof.Exponent

@[expose] public section

set_option maxRecDepth 16384

noncomputable section

namespace Cert.KernelIdeal.Bound

open Cert.KernelIdeal.Pure Cert.KernelIdeal.Scalar
open Idealize.ShloMosaic

/-- The five constants as reals. -/
theorem c_mean : Ideal.ofBits .f32 0x39000000#32 = ((1 / 8192 : ℝ) : EReal) := by
  have h := word_val 114
  rw [show word (114 : Fin 256).val = 0x39000000#32 from by decide] at h
  rw [h, if_neg (by decide), if_neg (by decide)]
  refine congrArg (fun x : ℝ => (x : EReal)) ?_
  norm_num
theorem c_count : Ideal.ofBits .f32 0x46000000#32 = ((8192 : ℝ) : EReal) := by
  have h := word_val 140
  rw [show word (140 : Fin 256).val = 0x46000000#32 from by decide] at h
  rw [h, if_neg (by decide), if_neg (by decide)]
  refine congrArg (fun x : ℝ => (x : EReal)) ?_
  norm_num
theorem c_eps : ∃ e : ℝ, 0 < e ∧ Ideal.ofBits .f32 0x358637BD#32 = (e : EReal) :=
  ⟨(1 : ℝ) * (2 ^ 23 + 407485 : ℕ) * (2 : ℝ) ^ (107 - 127 - 23 : ℤ), by positivity, by
    simp [Ideal.ofBits, Ideal.ieee]⟩
theorem c_max : ∃ s : ℝ, 0 ≤ s ∧ s ≤ 1 / 400 ∧ Ideal.ofBits .f32 0x3B124925#32 = (s : EReal) :=
  ⟨(1 : ℝ) * (2 ^ 23 + 1198373 : ℕ) * (2 : ℝ) ^ (118 - 127 - 23 : ℤ), by positivity, by norm_num, by
    simp [Ideal.ofBits, Ideal.ieee]⟩
theorem c_bot : Ideal.ofBits .f32 0xFF800000#32 = ⊥ := by
  simp [Ideal.ofBits, Ideal.ieee]
theorem c_gamma : ∃ b : ℝ, b ≤ 2 ^ 128 ∧ Ideal.ofBits .f32 0x7F7F0000#32 = (b : EReal) :=
  ⟨(1 : ℝ) * (2 ^ 23 + 8323072 : ℕ) * (2 : ℝ) ^ (254 - 127 - 23 : ℤ), by norm_num, by
    simp [Ideal.ofBits, Ideal.ieee]⟩

/-- A square is not negative; that of an infinity is infinite. -/
theorem sq_nonneg (x : EReal) : 0 ≤ x * x := by
  induction x with
  | bot => simp
  | top => simp
  | coe r => rw [← EReal.coe_mul]; exact_mod_cast mul_self_nonneg r

theorem sq_top (x : EReal) (h : x = ⊤ ∨ x = ⊥) : x * x = ⊤ := by
  rcases h with h | h <;> rw [h] <;> simp

/-- A sum of reals is the real sum. -/
theorem coe_sum {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- The row's sum of squares, block after block or in one. -/
theorem sum_blocks (f : Fin 8192 → EReal) :
    ∑ l : Fin 128, ∑ b : Fin 64, f ⟨128 * b + l, by omega⟩ = ∑ j, f j := by
  rw [Fin.sum_univ_tiles 64 128 rfl f, Finset.sum_comm]
  refine Finset.sum_congr rfl fun b _ => Finset.sum_congr rfl fun l _ => congrArg f (Fin.ext ?_)
  show 128 * b.val + l.val = b.val * 128 + l.val
  omega

theorem rowRs_eq (x : Fin 8192 → EReal) : rowRs x
    = Ideal.rsqrt ((∑ j, x j * x j) * Ideal.ofBits .f32 0x39000000#32 + Ideal.ofBits .f32 0x358637BD#32) := by
  unfold rowRs
  rw [sum_blocks fun j => x j * x j]

/-- With an infinity in the row the reciprocal root is 0. -/
theorem rowRs_top (x : Fin 8192 → EReal) (j : Fin 8192) (h : x j = ⊤ ∨ x j = ⊥) : rowRs x = 0 := by
  have hs : ∑ j, x j * x j = ⊤ := by
    rw [eq_top_iff, ← sq_top (x j) h]
    exact Finset.single_le_sum (f := fun j => x j * x j) (fun i _ => sq_nonneg (x i)) (Finset.mem_univ j)
  obtain ⟨e, _, he⟩ := c_eps
  rw [rowRs_eq, hs, c_mean, EReal.top_mul_coe_of_pos (by norm_num), he, EReal.top_add_coe, Ideal.rsqrt_top]

/-- A finite row's element times the reciprocal root. -/
theorem normalized (x : Fin 8192 → ℝ) (j : Fin 8192) :
    ∃ n : ℝ, |n| ≤ 91 ∧ (x j : EReal) * rowRs (fun j => (x j : EReal)) = (n : EReal) := by
  obtain ⟨e, e0, he⟩ := c_eps
  rw [rowRs_eq]
  simp only [← EReal.coe_mul]
  rw [coe_sum, c_mean, he, ← EReal.coe_mul, ← EReal.coe_add, Ideal.rsqrt_coe]
  have hle : x j * x j ≤ ∑ j, x j * x j :=
    Finset.single_le_sum (f := fun j => x j * x j) (fun i _ => mul_self_nonneg (x i)) (Finset.mem_univ j)
  have h0 : 0 ≤ ∑ j, x j * x j := Finset.sum_nonneg fun i _ => mul_self_nonneg (x i)
  generalize (∑ j, x j * x j) = S at hle h0
  have hD : 0 < S * (1 / 8192) + e := by positivity
  rw [if_neg (not_lt.mpr hD.le), if_neg hD.ne']
  refine ⟨x j * (Real.sqrt (S * (1 / 8192) + e))⁻¹, ?_, by rw [EReal.coe_mul]⟩
  have hq : 0 < Real.sqrt (S * (1 / 8192) + e) := Real.sqrt_pos.mpr hD
  have hsq := Real.mul_self_sqrt hD.le
  generalize Real.sqrt (S * (1 / 8192) + e) = q at hq hsq
  rw [abs_mul, abs_inv, abs_of_pos hq, ← div_eq_mul_inv, div_le_iff₀ hq]
  refine abs_le_of_sq_le_sq ?_ (by positivity)
  nlinarith

/-- The element times gamma is a real of bounded magnitude. -/
theorem rowY_real (x g : Fin 8192 → EReal) (hg : ∀ j, ∃ r : ℝ, |r| ≤ 2 ^ 128 ∧ g j = (r : EReal)) (j : Fin 8192) :
    ∃ y : ℝ, |y| ≤ 91 * 2 ^ 128 ∧ rowY x g j = (y : EReal) := by
  obtain ⟨r, hr, hgr⟩ := hg j
  by_cases h : ∃ i, x i = ⊤ ∨ x i = ⊥
  · obtain ⟨i, hi⟩ := h
    refine ⟨0, by norm_num, ?_⟩
    unfold rowY
    rw [rowRs_top x i hi]
    simp
  · have hx : ∀ i, ((x i).toReal : EReal) = x i := fun i =>
      EReal.coe_toReal (fun e => h ⟨i, Or.inl e⟩) (fun e => h ⟨i, Or.inr e⟩)
    obtain ⟨n, hn, he⟩ := normalized (fun i => (x i).toReal) j
    simp only [hx] at he
    refine ⟨n * r, ?_, ?_⟩
    · rw [abs_mul]; exact mul_le_mul hn hr (abs_nonneg _) (by norm_num)
    · unfold rowY
      rw [he, hgr, EReal.coe_mul]

/-- A block's scale is a real in `[0, 2¹²⁶)`. -/
theorem rowS_real (x g : Fin 8192 → EReal) (hg : ∀ j, ∃ r : ℝ, |r| ≤ 2 ^ 128 ∧ g j = (r : EReal)) (b : Fin 64) :
    ∃ s : ℝ, 0 ≤ s ∧ s < (2 : ℝ) ^ (126 : ℤ) ∧ rowS x g b = (s : EReal) := by
  obtain ⟨c, c0, c1, hc⟩ := c_max
  have key : ∀ y : Fin 128 → EReal, (∀ l, ∃ r : ℝ, |r| ≤ 91 * 2 ^ 128 ∧ y l = (r : EReal)) →
      ∃ M : ℝ, 0 ≤ M ∧ M ≤ 91 * 2 ^ 128
        ∧ Finset.fold max (⊥ : EReal) (fun l => max (y l) (-y l)) Finset.univ = (M : EReal) := by
    intro y hy
    have up : Finset.fold max (⊥ : EReal) (fun l => max (y l) (-y l)) Finset.univ ≤ ((91 * 2 ^ 128 : ℝ) : EReal) := by
      rw [Finset.fold_max_le]
      refine ⟨bot_le, fun l _ => ?_⟩
      obtain ⟨r, hr, e⟩ := hy l
      rw [e, ← EReal.coe_neg]
      exact max_le (EReal.coe_le_coe_iff.mpr (le_trans (le_abs_self r) hr)) (EReal.coe_le_coe_iff.mpr (le_trans (neg_le_abs r) hr))
    have low : (0 : EReal) ≤ Finset.fold max (⊥ : EReal) (fun l => max (y l) (-y l)) Finset.univ := by
      rw [Finset.le_fold_max]
      refine Or.inr ⟨0, Finset.mem_univ _, ?_⟩
      obtain ⟨r, hr, e⟩ := hy 0
      rw [e, ← EReal.coe_neg]
      rcases le_total 0 r with h | h
      · exact le_max_of_le_left (by exact_mod_cast h)
      · exact le_max_of_le_right (by exact_mod_cast neg_nonneg.mpr h)
    generalize Finset.fold max (⊥ : EReal) (fun l => max (y l) (-y l)) Finset.univ = M at up low
    induction M with
    | bot => simp at low
    | top => exact absurd up (not_le.mpr (EReal.coe_lt_top _))
    | coe M => exact ⟨M, by exact_mod_cast low, EReal.coe_le_coe_iff.mp up, rfl⟩
  obtain ⟨M, M0, M1, hM⟩ := key (fun l => rowY x g ⟨128 * b + l, by omega⟩) fun l => rowY_real x g hg _
  refine ⟨M * c, by positivity, ?_, ?_⟩
  · have : M * c ≤ 91 * 2 ^ 128 * (1 / 400) := mul_le_mul M1 c1 c0 (by positivity)
    refine lt_of_le_of_lt this ?_
    norm_num
  · unfold rowS scale
    rw [c_bot, hc, EReal.coe_mul, ← hM]
    rfl

end Cert.KernelIdeal.Bound
-- ==== Proof.KernelArr.lean ====
/-
  What the kernel's two result arrays hold after its run, at the ideal values and at an index.
-/
module

public import proofs.«01_k».proof.Proof.KernelPure
public import proofs.«01_k».proof.Proof.IdealRun
public import Idealize.ShloMosaic.Lib.Pipeline.ValueKit
public import Idealize.ShloMosaic.Lib.Claim

@[expose] public section

set_option maxRecDepth 16384

noncomputable section

namespace Cert.KernelIdeal.Arr

open Cert.KernelIdeal Cert.KernelIdeal.Gen Cert.KernelIdeal.Pure Cert.KernelIdeal.Run
open Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of x's rows laid end to end, and gamma. -/
def rowX (X : FVec Ideal S11x1024x8192 .bf16) (r : Fin 11264) : Fin 8192 → EReal :=
  fun j => X (ix3 (⟨r / 1024, by omega⟩ : Fin 11) (⟨r % 1024, by omega⟩ : Fin 1024) j)
def vecG (G : FVec Ideal S8192 .bf16) : Fin 8192 → EReal := fun j => G (ix1 j)

abbrev argX : FVec Ideal S11x1024x8192 .bf16 := m ((c : Thread nD τ).loc main_arg0)
abbrev argG : FVec Ideal S8192 .bf16 := m ((c : Thread nD τ).loc main_arg1)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem lt (t : Fin cfg0.N) : t.val < 44 := t.isLt

theorem entry_x : V m c main_v0 = shapeCast S11264x8192 (argX m c) shapeCasts_S11x1024x8192_S11264x8192 := by
  entry_read
  rfl

theorem entry_g : V m c main_v2 = shapeCast S1x8192 (extf .f32 (argG m c) bitsLt_bf16_f32 : FVec Ideal S8192 .f32) shapeCasts_S8192_S1x8192 := by
  entry_read
  rfl

theorem x_at (r : Fin 11264) (j : Fin 8192) : (V m c main_v0 : FVec Ideal S11264x8192 .bf16) (ix2 r j) = rowX (argX m c) r j := by
  rw [entry_x]
  pointwise [rowX]

theorem g_at (j : Fin 8192) : (V m c main_v2 : FVec Ideal S1x8192 .f32) (ix2 (0 : Fin 1) j) = vecG (argG m c) j := by
  rw [entry_g]
  pointwise [vecG]

/-- The rows of point `t`'s block. -/
theorem xblk_at (t : Fin cfg0.N) (r : Fin 256) (j : Fin 8192) :
    (iblk m c 0 t : FVec Ideal S256x8192 .bf16) (ix2 r j) = rowX (argX m c) ⟨256 * t.val + r.val, by have := lt t; omega⟩ j := by
  rw [← x_at]
  blk_ext [iblk, idx t]

/-- Gamma's block is gamma. -/
theorem gblk_at (t : Fin cfg0.N) (j : Fin 8192) :
    (iblk m c 1 t : FVec Ideal S1x8192 .f32) (ix2 (0 : Fin 1) j) = vecG (argG m c) j := by
  rw [← g_at]
  blk_ext [iblk, idx t]

/-- The codes after the run. -/
theorem codes_arr : (dats m 0 c).arrAt 2 (cfgs 0).N
    = fun j : S11264x8192.Idx => code (rowY (rowX (argX m c) (j 0)) (vecG (argG m c)) (j 1))
        (rowS (rowX (argX m c) (j 0)) (vecG (argG m c)) ⟨(j 1).val / 128, by have h : (j 1).val < 8192 := (j 1).isLt; omega⟩) := by
  refine (dats m 0 c).arrAt_eq_of_covers 2 _ (by decide +kernel) fun t _ y => ?_
  blk_simp
  rw [after0_2]
  have hy0 : (y 0).val < 256 := (y 0).isLt
  have ht := lt t
  have e0 : (win0_2.blk t).view.emb y 0 = (⟨256 * t.val + (y 0).val, by omega⟩ : Fin 11264) :=
    Fin.ext (by blk_simp [idx t]; show t.val * 256 + (y 0).val = 256 * t.val + (y 0).val; omega)
  have e1 : (win0_2.blk t).view.emb y 1 = y 1 := Fin.ext (by blk_simp [idx t]; try omega)
  have hx : (fun j => (iblk m c 0 t : FVec Ideal S256x8192 .bf16) (ix2 (y 0) j)) = rowX (argX m c) ⟨256 * t.val + (y 0).val, by omega⟩ :=
    funext fun j => xblk_at m c t (y 0) j
  have hg : (fun j => (iblk m c 1 t : FVec Ideal S1x8192 .f32) (ix2 (0 : Fin 1) j)) = vecG (argG m c) := funext fun j => gblk_at m c t j
  refine (congrArg (Body.codes (F := Ideal) (iblk m c 0 t) (iblk m c 1 t)) (eq_ix2 y)).trans ?_
  refine (codes_row (iblk m c 0 t) (iblk m c 1 t) (y 0) (y 1)).trans ?_
  rw [hx, hg]
  refine congrArg₂ code (congrArg₂ (fun (r : Fin 11264) (l : Fin 8192) => rowY (rowX (argX m c) r) (vecG (argG m c)) l) e0.symm e1.symm)
    (congrArg₂ (fun (r : Fin 11264) (b : Fin 64) => rowS (rowX (argX m c) r) (vecG (argG m c)) b) e0.symm (Fin.ext ?_))
  show (y 1).val / 128 = (win0_2.index t 1 * 8192 + (y 1).val) / 128
  rw [(idx t).2.2.1]
  show (y 1).val / 128 = (0 * 8192 + (y 1).val) / 128
  rw [Nat.zero_mul, Nat.zero_add]

/-- The bytes after the run. -/
theorem bytes_arr : (dats m 0 c).arrAt 3 (cfgs 0).N
    = fun j : S11264x64.Idx => byte (rowS (rowX (argX m c) (j 0)) (vecG (argG m c)) (j 1)) := by
  refine (dats m 0 c).arrAt_eq_of_covers 3 _ (by decide +kernel) fun t _ y => ?_
  blk_simp
  rw [after0_3]
  have hy0 : (y 0).val < 256 := (y 0).isLt
  have ht := lt t
  have e0 : (win0_3.blk t).view.emb y 0 = (⟨256 * t.val + (y 0).val, by omega⟩ : Fin 11264) :=
    Fin.ext (by blk_simp [idx t]; show t.val * 256 + (y 0).val = 256 * t.val + (y 0).val; omega)
  have e1 : (win0_3.blk t).view.emb y 1 = y 1 := Fin.ext (by blk_simp [idx t]; try omega)
  have hx : (fun j => (iblk m c 0 t : FVec Ideal S256x8192 .bf16) (ix2 (y 0) j)) = rowX (argX m c) ⟨256 * t.val + (y 0).val, by omega⟩ :=
    funext fun j => xblk_at m c t (y 0) j
  have hg : (fun j => (iblk m c 1 t : FVec Ideal S1x8192 .f32) (ix2 (0 : Fin 1) j)) = vecG (argG m c) := funext fun j => gblk_at m c t j
  refine (congrArg (Body.bytes (F := Ideal) (iblk m c 0 t) (iblk m c 1 t)) (eq_ix2 y)).trans ?_
  refine (bytes_row (iblk m c 0 t) (iblk m c 1 t) (y 0) (y 1)).trans ?_
  rw [hx, hg]
  exact congrArg byte (congrArg₂ (fun (r : Fin 11264) (b : Fin 64) => rowS (rowX (argX m c) r) (vecG (argG m c)) b) e0.symm e1.symm)

end Cert.KernelIdeal.Arr
-- ==== Proof.RefPure.lean ====
/-
  The reference's two arrays before its last step, as the plain formulas of its host lines, at the ideal values: the normalized
  row, the block's scale, the exponent, the clipped scaled elements; and each of them at an index.
-/
module

public import proofs.«01_k».proof.Proof.Gen.ReferenceIdeal.Value
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Pure

open Cert.ReferenceIdeal Cert.ReferenceIdeal.Gen
open Idealize.ShloMosaic Idealize.ShloMosaic.TcCoe Idealize.SL.Sem

/-- The normalized rows times gamma, cut into blocks of 128. -/
def refY (X : FVec Ideal S11x1024x8192 .bf16) (G : FVec Ideal S8192 .bf16) : FVec Ideal S11264x64x128 .f32 :=
  shapeCast S11264x64x128
    (mulf
      (mulf (shapeCast S11264x8192 (extf .f32 X bitsLt_bf16_f32 : FVec Ideal S11x1024x8192 .f32) shapeCasts_S11x1024x8192_S11264x8192)
        (broadcastInDim S11264x8192 ![0, 1] bcast_S11264x1_S11264x8192_0_1
          (Host.rsqrt
            (addf
              (Host.divf
                (broadcastInDim S11264x1 ![0] bcast_S11264_S11264x1_0
                  (Host.reduceAdd
                    (mulf (shapeCast S11264x8192 (extf .f32 X bitsLt_bf16_f32 : FVec Ideal S11x1024x8192 .f32) shapeCasts_S11x1024x8192_S11264x8192)
                      (shapeCast S11264x8192 (extf .f32 X bitsLt_bf16_f32 : FVec Ideal S11x1024x8192 .f32) shapeCasts_S11x1024x8192_S11264x8192))
                    (constant S_ .f32 0x00000000#32) reducesTo_S11264x8192_S11264_d1 h_S_))
                (broadcastInDim S11264x1 ![] bcast_S_S11264x1 (constant S_ .f32 0x46000000#32)))
              (broadcastInDim S11264x1 ![] bcast_S_S11264x1 (constant S_ .f32 0x358637BD#32))))))
      (broadcastInDim S11264x8192 ![0, 1] bcast_S1x8192_S11264x8192_0_1
        (broadcastInDim S1x8192 ![1] bcast_S8192_S1x8192_1 (extf .f32 G bitsLt_bf16_f32 : FVec Ideal S8192 .f32))))
    shapeCasts_S11264x8192_S11264x64x128

/-- A block's greatest magnitude. -/
def refM (Y : FVec Ideal S11264x64x128 .f32) : FVec Ideal S11264x64 .f32 :=
  Host.reduce FloatOps.maximumf (Host.absf Y) (constant S_ .f32 0xFF800000#32) reducesTo_S11264x64x128_S11264x64_d2 h_S_

/-- The scale of a greatest magnitude: 1/448 of it. -/
def scaleOf (M : FVec Ideal S11264x64 .f32) : FVec Ideal S11264x64 .f32 :=
  mulf M (broadcastInDim S11264x64 ![] bcast_S_S11264x64 (constant S_ .f32 0x3B124925#32))

/-- A block's scale. -/
def refS (Y : FVec Ideal S11264x64x128 .f32) : FVec Ideal S11264x64 .f32 := scaleOf (refM Y)

/-- Whether a scale is below the least normal float. -/
def refC (S : FVec Ideal S11264x64 .f32) : IVec S11264x64 1 :=
  cmpf .olt S (broadcastInDim S11264x64 ![] bcast_S_S11264x64 (constant S_ .f32 0x00800000#32))

/-- One more than the floor of a scale's base-2 logarithm. -/
def refL (S : FVec Ideal S11264x64 .f32) : FVec Ideal S11264x64 .f32 :=
  addf
    (Host.floor (Host.divf (Host.log S)
      (broadcastInDim S11264x64 ![] bcast_S_S11264x64 (Host.log (constant S_ .f32 0x40000000#32)))))
    (broadcastInDim S11264x64 ![] bcast_S_S11264x64 (constant S_ .f32 0x3F800000#32))

/-- The exponent of a scale: 0 below the least normal float. -/
def refE (S : FVec Ideal S11264x64 .f32) : FVec Ideal S11264x64 .f32 :=
  select (refC S) (broadcastInDim S11264x64 ![] bcast_S_S11264x64 (constant S_ .f32 0x00000000#32)) (refL S)

/-- The elements times 2 to minus the exponent, clipped to ±448. -/
def refV (Y : FVec Ideal S11264x64x128 .f32) (E : FVec Ideal S11264x64 .f32) : FVec Ideal S11264x8192 .f32 :=
  shapeCast S11264x8192
    (minimumf (broadcastInDim S11264x64x128 ![] bcast_S_S11264x64x128 (constant S_ .f32 0x43E00000#32))
      (maximumf (broadcastInDim S11264x64x128 ![] bcast_S_S11264x64x128 (constant S_ .f32 0xC3E00000#32))
        (mulf Y
          (broadcastInDim S11264x64x128 ![0, 1, 2] bcast_S11264x64x1_S11264x64x128_0_1_2
            (broadcastInDim S11264x64x1 ![0, 1] bcast_S11264x64_S11264x64x1_0_1
              (Host.powf (broadcastInDim S11264x64 ![] bcast_S_S11264x64 (constant S_ .f32 0x40000000#32)) (Host.negf E)))))))
    shapeCasts_S11264x64x128_S11264x8192

section
variable (σ : Valuation τ sig (Elt Ideal))

/-- Running two lists of host operations one after the other. -/
theorem after_append (l₁ l₂ : List (HloOp τ sig (Elt Ideal))) : StableHlo.after (l₁ ++ l₂) σ = StableHlo.after l₂ (StableHlo.after l₁ σ) := by
  induction l₁ generalizing σ with
  | nil => rfl
  | cons op l ih => exact ih _

/-! The selection line: the exponent, and what it leaves alone. -/
theorem where_v30 : StableHlo.after hostOps0_1 σ (Proc.tc.devRef main_v30)
    = (select (show IVec S11264x64 1 from σ (Proc.tc.devRef main_v29))
        (broadcastInDim S11264x64 ![] bcast_S_S11264x64 (show FVec Ideal S_ .f32 from σ (Proc.tc.devRef main_cst_7)))
        (show FVec Ideal S11264x64 .f32 from σ (Proc.tc.devRef main_v27)) : FVec Ideal S11264x64 .f32) := by
  entry_read
  rfl
theorem where_v16 : StableHlo.after hostOps0_1 σ (Proc.tc.devRef main_v16) = σ (Proc.tc.devRef main_v16) := by
  entry_read
  rfl

/-! The scaling line. -/
theorem scale_v30 : StableHlo.after hostOps0_2 σ (Proc.tc.devRef main_v30) = σ (Proc.tc.devRef main_v30) := by
  entry_read
  rfl
theorem scale_v36 : StableHlo.after hostOps0_2 σ (Proc.tc.devRef main_v36)
    = (mulf (show FVec Ideal S11264x64x128 .f32 from σ (Proc.tc.devRef main_v16))
          (broadcastInDim S11264x64x128 ![0, 1, 2] bcast_S11264x64x1_S11264x64x128_0_1_2
            (broadcastInDim S11264x64x1 ![0, 1] bcast_S11264x64_S11264x64x1_0_1
              (Host.powf (broadcastInDim S11264x64 ![] bcast_S_S11264x64 (constant S_ .f32 0x40000000#32))
                (Host.negf (show FVec Ideal S11264x64 .f32 from σ (Proc.tc.devRef main_v30)))))) : FVec Ideal S11264x64x128 .f32) := by
  entry_read
  rfl
theorem scale_lo : StableHlo.after hostOps0_2 σ (Proc.tc.devRef main_cst_9) = (constant S_ .f32 0xC3E00000#32 : FVec Ideal S_ .f32) := by
  entry_read
  rfl
theorem scale_hi : StableHlo.after hostOps0_2 σ (Proc.tc.devRef main_cst_10) = (constant S_ .f32 0x43E00000#32 : FVec Ideal S_ .f32) := by
  entry_read
  rfl

/-! The clipping line. -/
theorem clip_v30 : StableHlo.after hostOps0_3 σ (Proc.tc.devRef main_v30) = σ (Proc.tc.devRef main_v30) := by
  entry_read
  rfl
theorem clip_v37 : StableHlo.after hostOps0_3 σ (Proc.tc.devRef main_v37)
    = (minimumf (broadcastInDim S11264x64x128 ![] bcast_S_S11264x64x128 (show FVec Ideal S_ .f32 from σ (Proc.tc.devRef main_cst_10)))
        (maximumf (broadcastInDim S11264x64x128 ![] bcast_S_S11264x64x128 (show FVec Ideal S_ .f32 from σ (Proc.tc.devRef main_cst_9)))
          (show FVec Ideal S11264x64x128 .f32 from σ (Proc.tc.devRef main_v36))) : FVec Ideal S11264x64x128 .f32) := by
  entry_read
  rfl

/-! The last line. -/
theorem last_v38 : StableHlo.after hostOps0_4 σ (Proc.tc.devRef main_v38)
    = shapeCast S11264x8192 (show FVec Ideal S11264x64x128 .f32 from σ (Proc.tc.devRef main_v37)) shapeCasts_S11264x64x128_S11264x8192 := by
  entry_read
  rfl
theorem last_v39 : StableHlo.after hostOps0_4 σ (Proc.tc.devRef main_v39)
    = fptosi 32 (show FVec Ideal S11264x64 .f32 from σ (Proc.tc.devRef main_v30)) := by
  entry_read
  rfl
end

section
variable (m : (ℓ : Loc nD τ sig) → Buf (Elt Ideal) ℓ) (c : Dev nD)

abbrev argX : FVec Ideal S11x1024x8192 .bf16 := m ((c : Thread nD τ).loc main_arg0)
abbrev argG : FVec Ideal S8192 .bf16 := m ((c : Thread nD τ).loc main_arg1)

/-! The first line. -/
theorem first_v16 : StableHlo.after hostOps0 (fun b => m (c, b)) (Proc.tc.devRef main_v16) = refY (argX m c) (argG m c) := by
  entry_read
  rfl
theorem first_v29 : StableHlo.after hostOps0 (fun b => m (c, b)) (Proc.tc.devRef main_v29) = refC (refS (refY (argX m c) (argG m c))) := by
  entry_read
  rfl
theorem first_v27 : StableHlo.after hostOps0 (fun b => m (c, b)) (Proc.tc.devRef main_v27) = refL (refS (refY (argX m c) (argG m c))) := by
  entry_read
  rfl
theorem first_zero : StableHlo.after hostOps0 (fun b => m (c, b)) (Proc.tc.devRef main_cst_7) = (constant S_ .f32 0x00000000#32 : FVec Ideal S_ .f32) := by
  entry_read
  rfl

/-- The region starts from the five lines run in order. -/
theorem V_eq (b : Ref sig .tc) : V m c b = StableHlo.after hostOps0_4 (StableHlo.after hostOps0_3 (StableHlo.after hostOps0_2
    (StableHlo.after hostOps0_1 (StableHlo.after hostOps0 (fun b => m (c, b)))))) (Proc.tc.devRef b) := by
  have h : ([hostOps0, hostOps0_1, hostOps0_2, hostOps0_3, hostOps0_4].flatten : List (HloOp τ sig (Elt Ideal)))
      = hostOps0 ++ (hostOps0_1 ++ (hostOps0_2 ++ (hostOps0_3 ++ (hostOps0_4 ++ [])))) := by simp only [List.flatten_cons, List.flatten_nil]
  show StableHlo.after ([hostOps0, hostOps0_1, hostOps0_2, hostOps0_3, hostOps0_4].flatten) _ _ = _
  rw [h, after_append, after_append, after_append, after_append, List.append_nil]

/-- What the last step's exponent operand holds when it starts. -/
theorem entry_e : V m c main_v39 = fptosi 32 (refE (refS (refY (argX m c) (argG m c)))) := by
  rw [V_eq, last_v39]
  dsimp only
  rw [clip_v30, scale_v30, where_v30, first_v29, first_v27, first_zero]
  rfl

/-- What the last step's element operand holds when it starts. -/
theorem entry_v : V m c main_v38 = refV (refY (argX m c) (argG m c)) (refE (refS (refY (argX m c) (argG m c)))) := by
  rw [V_eq, last_v38]
  dsimp only
  rw [clip_v37]
  dsimp only
  rw [scale_hi, scale_lo, scale_v36]
  dsimp only
  rw [where_v16, where_v30, first_v16, first_v29, first_v27, first_zero]
  rfl
end

/-! ## At an index -/

/-- A host maximum of magnitudes over the last of three axes, at an index. -/
theorem host_max_at {n0 n1 n2 : ℕ} {u : Shape} (v : FVec Ideal ⟨3, ![n0, n1, n2]⟩ .f32) (w : BitVec 32)
    (h : (⟨3, ![n0, n1, n2]⟩ : Shape).ReducesTo [2] ⟨2, ![n0, n1]⟩) (hu : 0 < u.numel) (a : Fin n0) (b : Fin n1) :
    Host.reduce FloatOps.maximumf (Host.absf v) (constant u .f32 w) h hu (ix2 a b)
      = (Finset.univ : Finset (Fin n2)).fold max (Ideal.ofBits .f32 w) fun k => FloatOps.absf (v (ix3 a b k)) := by
  rw [Host.reduce_eq_fold, h.fold_fiber_r3_a2]
  rfl

theorem refY_at (X : FVec Ideal S11x1024x8192 .bf16) (G : FVec Ideal S8192 .bf16) (r : Fin 11264) (b : Fin 64) (l : Fin 128) :
    refY X G (ix3 r b l) = X (ix3 ⟨r / 1024, by omega⟩ ⟨r % 1024, by omega⟩ ⟨b * 128 + l, by omega⟩)
        * Ideal.rsqrt (Ideal.div (∑ k, X (ix3 ⟨r / 1024, by omega⟩ ⟨r % 1024, by omega⟩ k) * X (ix3 ⟨r / 1024, by omega⟩ ⟨r % 1024, by omega⟩ k))
            (Ideal.ofBits .f32 0x46000000#32) + Ideal.ofBits .f32 0x358637BD#32)
        * G (ix1 ⟨b * 128 + l, by omega⟩) := by
  pointwise [refY]

theorem refM_at (Y : FVec Ideal S11264x64x128 .f32) (r : Fin 11264) (b : Fin 64) :
    refM Y (ix2 r b) = (Finset.univ : Finset (Fin 128)).fold max (Ideal.ofBits .f32 0xFF800000#32) (fun k => FloatOps.absf (Y (ix3 r b k))) := by
  exact host_max_at Y _ _ _ r b

theorem scaleOf_at (M : FVec Ideal S11264x64 .f32) (r : Fin 11264) (b : Fin 64) :
    scaleOf M (ix2 r b) = M (ix2 r b) * Ideal.ofBits .f32 0x3B124925#32 := by
  pointwise [scaleOf]

theorem refS_at (Y : FVec Ideal S11264x64x128 .f32) (r : Fin 11264) (b : Fin 64) :
    refS Y (ix2 r b) = refM Y (ix2 r b) * Ideal.ofBits .f32 0x3B124925#32 := scaleOf_at (refM Y) r b

theorem refE_at (S : FVec Ideal S11264x64 .f32) (r : Fin 11264) (b : Fin 64) :
    refE S (ix2 r b) = if S (ix2 r b) < Ideal.ofBits .f32 0x00800000#32 then 0
      else Ideal.liftRound Int.floor (Ideal.div (Ideal.log (S (ix2 r b))) (Ideal.log (Ideal.ofBits .f32 0x40000000#32))) + 1 := by
  pointwise [refE, refC, refL]

theorem refV_at (Y : FVec Ideal S11264x64x128 .f32) (E : FVec Ideal S11264x64 .f32) (r : Fin 11264) (l : Fin 8192) :
    refV Y E (ix2 r l) = min (Ideal.ofBits .f32 0x43E00000#32) (max (Ideal.ofBits .f32 0xC3E00000#32)
      (Y (ix3 r ⟨l / 128, by omega⟩ ⟨l % 128, by omega⟩) * Ideal.pow (Ideal.ofBits .f32 0x40000000#32) (-E (ix2 r ⟨l / 128, by omega⟩)))) := by
  pointwise [refV]

end Cert.ReferenceIdeal.Pure
-- ==== Proof.RefArr.lean ====
/-
  What the reference's two result arrays hold after its run, at the ideal values.
-/
module

public import proofs.«01_k».proof.Proof.RefPure

@[expose] public section

set_option maxRecDepth 16384

noncomputable section

namespace Cert.ReferenceIdeal.Arr

open Cert.ReferenceIdeal Cert.ReferenceIdeal.Gen Cert.ReferenceIdeal.Pure
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem codes_arr (j : S11264x8192.Idx) : (dats m 0 c).arrAt 2 (cfgs 0).N j = (V m c main_v38 : FVec Ideal S11264x8192 .f32) j := by
  refine congrFun ((dats m 0 c).arrAt_eq_of_after_last 2 t0_0 (by decide +kernel) (V m c main_v38 : FVec Ideal S11264x8192 .f32) fun j => ?_) j
  blk_simp
  rw [after0_2]
  frame_out
  pointwise [k0_pay1]
  blk_point [iblk, idx t0_0]

theorem bytes_arr (j : S11264x64.Idx) : (dats m 0 c).arrAt 3 (cfgs 0).N j = (IntOp.addi ((V m c main_v39 : IVec S11264x64 32) j) 127#32).setWidth 8 := by
  refine congrFun ((dats m 0 c).arrAt_eq_of_after_last 3 t0_0 (by decide +kernel) (fun j => (IntOp.addi ((V m c main_v39 : IVec S11264x64 32) j) 127#32).setWidth 8) fun j => ?_) j
  blk_simp
  rw [after0_3]
  frame_out
  pointwise [k0_pay2]
  blk_point [iblk, idx t0_0]

end Cert.ReferenceIdeal.Arr
-- ==== Proof.Match.lean ====
/-
  The kernel's codes and exponent bytes are the reference's, at an index and for any arguments whose gamma is finite.
-/
module

public import proofs.«01_k».proof.Proof.Bound
public import proofs.«01_k».proof.Proof.KernelArr
public import proofs.«01_k».proof.Proof.RefArr
public import proofs.«01_k».proof.Pre_bf16_gamma
public import Idealize.ShloMosaic.Lib.ReduceAll

@[expose] public section

set_option maxRecDepth 16384

noncomputable section

namespace Cert.Match

open Cert.KernelIdeal.Pure Cert.KernelIdeal.Scalar Cert.KernelIdeal.Bound
open Cert.KernelIdeal.Arr (rowX vecG)
open Cert.ReferenceIdeal (S11x1024x8192 S8192 S11264x8192 S11264x64 S11264x64x128)
open Cert.ReferenceIdeal.Pure (refY refM refS refE refV refY_at refM_at refS_at refE_at refV_at)
open Idealize.ShloMosaic

variable (X : FVec Ideal S11x1024x8192 .bf16) (G : FVec Ideal S8192 .bf16)

/-- The reference's normalized element is the kernel's. -/
theorem refY_row (r : Fin 11264) (b : Fin 64) (l : Fin 128) (j : Fin 8192) (h : j.val = b.val * 128 + l.val) :
    refY X G (ix3 r b l) = rowY (rowX X r) (vecG G) j := by
  have hb : b.val * 128 + l.val < 8192 := by have := b.isLt; have := l.isLt; omega
  rw [show j = ⟨b.val * 128 + l.val, hb⟩ from Fin.ext h]
  rw [refY_at, c_count, Ideal.div_coe (by norm_num)]
  unfold rowY
  rw [rowRs_eq, c_mean]
  rfl

/-- Its scale is the kernel's. -/
theorem refS_row (r : Fin 11264) (b : Fin 64) : refS (refY X G) (ix2 r b) = rowS (rowX X r) (vecG G) b := by
  rw [refS_at, refM_at]
  unfold rowS scale
  refine congrArg (fun M : EReal => M * Ideal.ofBits .f32 0x3B124925#32) (Finset.fold_congr fun l _ => ?_)
  exact congrArg (fun y : EReal => FloatOps.absf (F := Ideal) (φ := .f32) y)
    (refY_row X G r b l ⟨128 * b + l, by omega⟩ (by show 128 * b.val + l.val = _; omega))

theorem refE_row (r : Fin 11264) (b : Fin 64) :
    refE (refS (refY X G)) (ix2 r b) = refExp (rowS (rowX X r) (vecG G) b) := by
  rw [refE_at, refS_row]
  rfl

variable (hG : ∀ j, ∃ g : ℝ, |g| ≤ 2 ^ 128 ∧ vecG G j = (g : EReal))
include hG

/-- The codes agree … -/
theorem codes_eq (r : Fin 11264) (l : Fin 8192) :
    refV (refY X G) (refE (refS (refY X G))) (ix2 r l)
      = code (rowY (rowX X r) (vecG G) l) (rowS (rowX X r) (vecG G) ⟨l.val / 128, by omega⟩) := by
  rw [refV_at, refE_row, refY_row X G r _ _ l (by show l.val = l.val / 128 * 128 + l.val % 128; omega)]
  obtain ⟨s, s0, s1, hs⟩ := rowS_real (rowX X r) (vecG G) hG ⟨l.val / 128, by omega⟩
  rw [hs]
  obtain ⟨E, e0, e1, hf, he⟩ := exponents s s0 s1
  unfold code
  rw [hf, he, inverse_scale E e0 e1]

/-- … and so do the exponent bytes. -/
theorem bytes_eq (r : Fin 11264) (b : Fin 64) :
    ((IntOp.addi ((fptosi 32 (refE (refS (refY X G))) : IVec S11264x64 32) (ix2 r b)) 127#32).setWidth 8 : BitVec 8)
      = byte (rowS (rowX X r) (vecG G) b) := by
  show ((IntOp.addi (Ideal.fptosi 32 (refE (refS (refY X G)) (ix2 r b))) 127#32).setWidth 8 : BitVec 8) = _
  rw [refE_row]
  obtain ⟨s, s0, s1, hs⟩ := rowS_real (rowX X r) (vecG G) hG b
  rw [hs]
  obtain ⟨E, e0, e1, hf, he⟩ := exponents s s0 s1
  unfold byte
  rw [hf, he, exponent_byte E e0 e1]

omit hG

/-- A value of magnitude at most a real is a real. -/
theorem abs_real (g : EReal) (B : ℝ) (hB : B ≤ 2 ^ 128) (hle : max g (-g) ≤ (B : EReal)) : ∃ r : ℝ, |r| ≤ 2 ^ 128 ∧ g = (r : EReal) := by
  have h1 := le_trans (le_max_left _ _) hle
  have h2 := le_trans (le_max_right _ _) hle
  induction g with
  | bot => rw [EReal.neg_bot] at h2; exact absurd h2 (not_le.mpr (EReal.coe_lt_top _))
  | top => exact absurd h1 (not_le.mpr (EReal.coe_lt_top _))
  | coe g =>
    rw [← EReal.coe_neg] at h2
    have h1' := EReal.coe_le_coe_iff.mp h1
    have h2' := EReal.coe_le_coe_iff.mp h2
    exact ⟨g, abs_le.mpr ⟨by linarith, by linarith⟩, rfl⟩

/-- The precondition bounds gamma. -/
theorem gamma_real [Cert.Pre_bf16_gamma.Facts] (h : Cert.Pre_bf16_gamma.fn (F := Ideal) X G = fun _ => 1#1) (j : Fin 8192) :
    ∃ g : ℝ, |g| ≤ 2 ^ 128 ∧ vecG G j = (g : EReal) := by
  obtain ⟨B, hB, hb⟩ := c_gamma
  haveI : Subsingleton Cert.Pre_bf16_gamma.S_.Idx := ⟨fun a b => funext fun i => i.elim0⟩
  have e := Host.reduce_andi_all _ _ _ _ _ (congrFun h (fun i => i.elim0)) (ix1 j)
  have hle : max (G (ix1 j)) (-G (ix1 j)) ≤ Ideal.ofBits .f32 0x7F7F0000#32 := by
    have : BitVec.ofBool (decide (max (G (ix1 j)) (-G (ix1 j)) ≤ Ideal.ofBits .f32 0x7F7F0000#32)) = 1#1 := e
    by_contra hn
    rw [decide_eq_false hn] at this
    exact absurd this (by decide)
  rw [hb] at hle
  exact abs_real (G (ix1 j)) B hB hle

end Cert.Match
-- ==== Proof.lean ====
/-
  The claims: the kernel, its idealization and the reference each run, keep their arguments and leave every counter at zero; the
  idealization is the kernel's text read over the extended reals; and over the extended reals the kernel and the reference end with
  equal codes and equal exponent bytes whenever every gamma is finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_bf16_gamma
public import proofs.«01_k».proof.Proof.KernelFrame
public import proofs.«01_k».proof.Proof.IdealRun
public import proofs.«01_k».proof.Proof.Match

@[expose] public section

noncomputable section

namespace Cert.Proof

open Idealize.ShloMosaic Idealize.ShloMosaic.TcCoe Idealize.SL.Sem

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (hx : ReferenceIdeal.Pure.argX m' c = KernelIdeal.Arr.argX m c) (hg : ReferenceIdeal.Pure.argG m' c = KernelIdeal.Arr.argG m c)
  (hG : ∀ j, ∃ g : ℝ, |g| ≤ 2 ^ 128 ∧ KernelIdeal.Arr.vecG (KernelIdeal.Arr.argG m c) j = (g : EReal))
include hx hg hG

/-- From equal arguments with a finite gamma, the reference's codes are the kernel's … -/
theorem codes : (ReferenceIdeal.Gen.dats m' 0 c).arrAt 2 (ReferenceIdeal.cfgs 0).N
    = (KernelIdeal.Run.dats m 0 c).arrAt 2 (KernelIdeal.cfgs 0).N := by
  rw [KernelIdeal.Arr.codes_arr]
  funext j
  refine (ReferenceIdeal.Arr.codes_arr m' c j).trans ?_
  rw [ReferenceIdeal.Pure.entry_v, hx, hg]
  exact (congrArg _ (eq_ix2 j)).trans (Match.codes_eq _ _ hG (j 0) (j 1))

/-- … and so are its exponent bytes. -/
theorem bytes : (ReferenceIdeal.Gen.dats m' 0 c).arrAt 3 (ReferenceIdeal.cfgs 0).N
    = (KernelIdeal.Run.dats m 0 c).arrAt 3 (KernelIdeal.cfgs 0).N := by
  rw [KernelIdeal.Arr.bytes_arr]
  funext j
  refine (ReferenceIdeal.Arr.bytes_arr m' c j).trans ?_
  rw [ReferenceIdeal.Pure.entry_e, hx, hg]
  refine Eq.trans ?_ (Match.bytes_eq _ _ hG (j 0) (j 1))
  rw [← eq_ix2 j]

end

/-- The claim. -/
theorem claim : Cert.Claim :=
  ⟨Cert.Kernel.Gen.facts, Cert.KernelIdeal.Gen.facts, Cert.ReferenceIdeal.Gen.facts, Cert.Pre_bf16_gamma.Gen.facts,
    fun m ρ _ => Cert.Kernel.HandFrame.frame m ρ,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    trivial, by
    pair_intro
    · run_from Cert.KernelIdeal.Run.run_main m g
    · run_from Cert.ReferenceIdeal.Gen.run_main m' g'
      · have hG := Cert.Match.gamma_real _ _ (hpre c)
        exact codes m m' c (hagree c).1 (hagree c).2 hG
      · have hG := Cert.Match.gamma_real _ _ (hpre c)
        exact bytes m m' c (hagree c).1 (hagree c).2 hG
      · exact (Cert.ReferenceIdeal.Gen.V_main_arg0 m' c).trans (hagree c).1
      · exact (Cert.ReferenceIdeal.Gen.V_main_arg1 m' c).trans (hagree c).2⟩

end Cert.Proof

end
